-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S31x8x1024 : Shape := ⟨3, ![31, 8, 1024]⟩
abbrev S31 : Shape := ⟨1, ![31]⟩
abbrev S_ : Shape := ⟨0, ![]⟩
abbrev S1x128x1024 : Shape := ⟨3, ![1, 128, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1 : Shape := ⟨1, ![1]⟩
abbrev S1x8x1024 : Shape := ⟨3, ![1, 8, 1024]⟩
abbrev S8x1024 : Shape := ⟨2, ![8, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S256x1024, .bf16⟩
  | .local _ .vmem, ⟨7, _⟩ => ⟨S256x1024, .bf16⟩
  | .local _ .vmem, ⟨8, _⟩ => ⟨S31x8x1024, .bf16⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c0_i32 : BitVec 32 := 0#32
  let v5 : BitVec 32 := Scalar.addi v4 c0_i32
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v9 : BitVec 32 := Scalar.addi v2 c1_i32_5
  let c1_i32_6 : BitVec 32 := 1#32
  let v10 : BitVec 32 := Scalar.addi v9 c1_i32_6
  let c32_i32_7 : BitVec 32 := 32#32
  let v11 : BitVec 32 := Scalar.remsi v10 c32_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v14 : BitVec 32 := Scalar.addi v2 c1_i32_11
  let c2_i32 : BitVec 32 := 2#32
  let v15 : BitVec 32 := Scalar.addi v14 c2_i32
  let c32_i32_12 : BitVec 32 := 32#32
  let v16 : BitVec 32 := Scalar.remsi v15 c32_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v19 : BitVec 32 := Scalar.addi v2 c1_i32_16
  let c3_i32 : BitVec 32 := 3#32
  let v20 : BitVec 32 := Scalar.addi v19 c3_i32
  let c32_i32_17 : BitVec 32 := 32#32
  let v21 : BitVec 32 := Scalar.remsi v20 c32_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_21 : BitVec 32 := 1#32
  let v24 : BitVec 32 := Scalar.addi v2 c1_i32_21
  let c4_i32 : BitVec 32 := 4#32
  let v25 : BitVec 32 := Scalar.addi v24 c4_i32
  let c32_i32_22 : BitVec 32 := 32#32
  let v26 : BitVec 32 := Scalar.remsi v25 c32_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_26 : BitVec 32 := 1#32
  let v29 : BitVec 32 := Scalar.addi v2 c1_i32_26
  let c5_i32 : BitVec 32 := 5#32
  let v30 : BitVec 32 := Scalar.addi v29 c5_i32
  let c32_i32_27 : BitVec 32 := 32#32
  let v31 : BitVec 32 := Scalar.remsi v30 c32_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v34 : BitVec 32 := Scalar.addi v2 c1_i32_31
  let c6_i32 : BitVec 32 := 6#32
  let v35 : BitVec 32 := Scalar.addi v34 c6_i32
  let c32_i32_32 : BitVec 32 := 32#32
  let v36 : BitVec 32 := Scalar.remsi v35 c32_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_36 : BitVec 32 := 1#32
  let v39 : BitVec 32 := Scalar.addi v2 c1_i32_36
  let c7_i32 : BitVec 32 := 7#32
  let v40 : BitVec 32 := Scalar.addi v39 c7_i32
  let c32_i32_37 : BitVec 32 := 32#32
  let v41 : BitVec 32 := Scalar.remsi v40 c32_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v44 : BitVec 32 := Scalar.addi v2 c1_i32_41
  let c8_i32 : BitVec 32 := 8#32
  let v45 : BitVec 32 := Scalar.addi v44 c8_i32
  let c32_i32_42 : BitVec 32 := 32#32
  let v46 : BitVec 32 := Scalar.remsi v45 c32_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_46 : BitVec 32 := 1#32
  let v49 : BitVec 32 := Scalar.addi v2 c1_i32_46
  let c9_i32 : BitVec 32 := 9#32
  let v50 : BitVec 32 := Scalar.addi v49 c9_i32
  let c32_i32_47 : BitVec 32 := 32#32
  let v51 : BitVec 32 := Scalar.remsi v50 c32_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v54 : BitVec 32 := Scalar.addi v2 c1_i32_51
  let c10_i32 : BitVec 32 := 10#32
  let v55 : BitVec 32 := Scalar.addi v54 c10_i32
  let c32_i32_52 : BitVec 32 := 32#32
  let v56 : BitVec 32 := Scalar.remsi v55 c32_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_56 : BitVec 32 := 1#32
  let v59 : BitVec 32 := Scalar.addi v2 c1_i32_56
  let c11_i32 : BitVec 32 := 11#32
  let v60 : BitVec 32 := Scalar.addi v59 c11_i32
  let c32_i32_57 : BitVec 32 := 32#32
  let v61 : BitVec 32 := Scalar.remsi v60 c32_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_61 : BitVec 32 := 1#32
  let v64 : BitVec 32 := Scalar.addi v2 c1_i32_61
  let c12_i32 : BitVec 32 := 12#32
  let v65 : BitVec 32 := Scalar.addi v64 c12_i32
  let c32_i32_62 : BitVec 32 := 32#32
  let v66 : BitVec 32 := Scalar.remsi v65 c32_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_66 : BitVec 32 := 1#32
  let v69 : BitVec 32 := Scalar.addi v2 c1_i32_66
  let c13_i32 : BitVec 32 := 13#32
  let v70 : BitVec 32 := Scalar.addi v69 c13_i32
  let c32_i32_67 : BitVec 32 := 32#32
  let v71 : BitVec 32 := Scalar.remsi v70 c32_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_71 : BitVec 32 := 1#32
  let v74 : BitVec 32 := Scalar.addi v2 c1_i32_71
  let c14_i32 : BitVec 32 := 14#32
  let v75 : BitVec 32 := Scalar.addi v74 c14_i32
  let c32_i32_72 : BitVec 32 := 32#32
  let v76 : BitVec 32 := Scalar.remsi v75 c32_i32_72
  let c1_i32_74 : BitVec 32 := 1#32
  let v77 : BitVec 32 := Scalar.muli v76 c1_i32_74
  let v78 : BitVec 32 := Scalar.addi c0_i32_75 v77
  v78.toNat
def k0_dev16 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v79 : BitVec 32 := Scalar.addi v2 c1_i32_76
  let c15_i32 : BitVec 32 := 15#32
  let v80 : BitVec 32 := Scalar.addi v79 c15_i32
  let c32_i32_77 : BitVec 32 := 32#32
  let v81 : BitVec 32 := Scalar.remsi v80 c32_i32_77
  let c1_i32_79 : BitVec 32 := 1#32
  let v82 : BitVec 32 := Scalar.muli v81 c1_i32_79
  let v83 : BitVec 32 := Scalar.addi c0_i32_80 v82
  v83.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v84 : BitVec 32 := Scalar.addi v2 c1_i32_81
  let c16_i32 : BitVec 32 := 16#32
  let v85 : BitVec 32 := Scalar.addi v84 c16_i32
  let c32_i32_82 : BitVec 32 := 32#32
  let v86 : BitVec 32 := Scalar.remsi v85 c32_i32_82
  let c1_i32_84 : BitVec 32 := 1#32
  let v87 : BitVec 32 := Scalar.muli v86 c1_i32_84
  let v88 : BitVec 32 := Scalar.addi c0_i32_85 v87
  v88.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_86 : BitVec 32 := 1#32
  let v89 : BitVec 32 := Scalar.addi v2 c1_i32_86
  let c17_i32 : BitVec 32 := 17#32
  let v90 : BitVec 32 := Scalar.addi v89 c17_i32
  let c32_i32_87 : BitVec 32 := 32#32
  let v91 : BitVec 32 := Scalar.remsi v90 c32_i32_87
  let c1_i32_89 : BitVec 32 := 1#32
  let v92 : BitVec 32 := Scalar.muli v91 c1_i32_89
  let v93 : BitVec 32 := Scalar.addi c0_i32_90 v92
  v93.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v94 : BitVec 32 := Scalar.addi v2 c1_i32_91
  let c18_i32 : BitVec 32 := 18#32
  let v95 : BitVec 32 := Scalar.addi v94 c18_i32
  let c32_i32_92 : BitVec 32 := 32#32
  let v96 : BitVec 32 := Scalar.remsi v95 c32_i32_92
  let c1_i32_94 : BitVec 32 := 1#32
  let v97 : BitVec 32 := Scalar.muli v96 c1_i32_94
  let v98 : BitVec 32 := Scalar.addi c0_i32_95 v97
  v98.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v99 : BitVec 32 := Scalar.addi v2 c1_i32_96
  let c19_i32 : BitVec 32 := 19#32
  let v100 : BitVec 32 := Scalar.addi v99 c19_i32
  let c32_i32_97 : BitVec 32 := 32#32
  let v101 : BitVec 32 := Scalar.remsi v100 c32_i32_97
  let c1_i32_99 : BitVec 32 := 1#32
  let v102 : BitVec 32 := Scalar.muli v101 c1_i32_99
  let v103 : BitVec 32 := Scalar.addi c0_i32_100 v102
  v103.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_101 : BitVec 32 := 1#32
  let v104 : BitVec 32 := Scalar.addi v2 c1_i32_101
  let c20_i32 : BitVec 32 := 20#32
  let v105 : BitVec 32 := Scalar.addi v104 c20_i32
  let c32_i32_102 : BitVec 32 := 32#32
  let v106 : BitVec 32 := Scalar.remsi v105 c32_i32_102
  let c1_i32_104 : BitVec 32 := 1#32
  let v107 : BitVec 32 := Scalar.muli v106 c1_i32_104
  let v108 : BitVec 32 := Scalar.addi c0_i32_105 v107
  v108.toNat
def k0_dev22 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_106 : BitVec 32 := 1#32
  let v109 : BitVec 32 := Scalar.addi v2 c1_i32_106
  let c21_i32 : BitVec 32 := 21#32
  let v110 : BitVec 32 := Scalar.addi v109 c21_i32
  let c32_i32_107 : BitVec 32 := 32#32
  let v111 : BitVec 32 := Scalar.remsi v110 c32_i32_107
  let c1_i32_109 : BitVec 32 := 1#32
  let v112 : BitVec 32 := Scalar.muli v111 c1_i32_109
  let v113 : BitVec 32 := Scalar.addi c0_i32_110 v112
  v113.toNat
def k0_dev23 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let v114 : BitVec 32 := Scalar.addi v2 c1_i32_111
  let c22_i32 : BitVec 32 := 22#32
  let v115 : BitVec 32 := Scalar.addi v114 c22_i32
  let c32_i32_112 : BitVec 32 := 32#32
  let v116 : BitVec 32 := Scalar.remsi v115 c32_i32_112
  let c1_i32_114 : BitVec 32 := 1#32
  let v117 : BitVec 32 := Scalar.muli v116 c1_i32_114
  let v118 : BitVec 32 := Scalar.addi c0_i32_115 v117
  v118.toNat
def k0_dev24 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_116 : BitVec 32 := 1#32
  let v119 : BitVec 32 := Scalar.addi v2 c1_i32_116
  let c23_i32 : BitVec 32 := 23#32
  let v120 : BitVec 32 := Scalar.addi v119 c23_i32
  let c32_i32_117 : BitVec 32 := 32#32
  let v121 : BitVec 32 := Scalar.remsi v120 c32_i32_117
  let c1_i32_119 : BitVec 32 := 1#32
  let v122 : BitVec 32 := Scalar.muli v121 c1_i32_119
  let v123 : BitVec 32 := Scalar.addi c0_i32_120 v122
  v123.toNat
def k0_dev25 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_121 : BitVec 32 := 1#32
  let v124 : BitVec 32 := Scalar.addi v2 c1_i32_121
  let c24_i32 : BitVec 32 := 24#32
  let v125 : BitVec 32 := Scalar.addi v124 c24_i32
  let c32_i32_122 : BitVec 32 := 32#32
  let v126 : BitVec 32 := Scalar.remsi v125 c32_i32_122
  let c1_i32_124 : BitVec 32 := 1#32
  let v127 : BitVec 32 := Scalar.muli v126 c1_i32_124
  let v128 : BitVec 32 := Scalar.addi c0_i32_125 v127
  v128.toNat
def k0_dev26 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_126 : BitVec 32 := 1#32
  let v129 : BitVec 32 := Scalar.addi v2 c1_i32_126
  let c25_i32 : BitVec 32 := 25#32
  let v130 : BitVec 32 := Scalar.addi v129 c25_i32
  let c32_i32_127 : BitVec 32 := 32#32
  let v131 : BitVec 32 := Scalar.remsi v130 c32_i32_127
  let c1_i32_129 : BitVec 32 := 1#32
  let v132 : BitVec 32 := Scalar.muli v131 c1_i32_129
  let v133 : BitVec 32 := Scalar.addi c0_i32_130 v132
  v133.toNat
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v134 : BitVec 32 := Scalar.addi v2 c1_i32_131
  let c26_i32 : BitVec 32 := 26#32
  let v135 : BitVec 32 := Scalar.addi v134 c26_i32
  let c32_i32_132 : BitVec 32 := 32#32
  let v136 : BitVec 32 := Scalar.remsi v135 c32_i32_132
  let c1_i32_134 : BitVec 32 := 1#32
  let v137 : BitVec 32 := Scalar.muli v136 c1_i32_134
  let v138 : BitVec 32 := Scalar.addi c0_i32_135 v137
  v138.toNat
def k0_dev28 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v139 : BitVec 32 := Scalar.addi v2 c1_i32_136
  let c27_i32 : BitVec 32 := 27#32
  let v140 : BitVec 32 := Scalar.addi v139 c27_i32
  let c32_i32_137 : BitVec 32 := 32#32
  let v141 : BitVec 32 := Scalar.remsi v140 c32_i32_137
  let c1_i32_139 : BitVec 32 := 1#32
  let v142 : BitVec 32 := Scalar.muli v141 c1_i32_139
  let v143 : BitVec 32 := Scalar.addi c0_i32_140 v142
  v143.toNat
def k0_dev29 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v144 : BitVec 32 := Scalar.addi v2 c1_i32_141
  let c28_i32 : BitVec 32 := 28#32
  let v145 : BitVec 32 := Scalar.addi v144 c28_i32
  let c32_i32_142 : BitVec 32 := 32#32
  let v146 : BitVec 32 := Scalar.remsi v145 c32_i32_142
  let c1_i32_144 : BitVec 32 := 1#32
  let v147 : BitVec 32 := Scalar.muli v146 c1_i32_144
  let v148 : BitVec 32 := Scalar.addi c0_i32_145 v147
  v148.toNat
def k0_dev30 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v149 : BitVec 32 := Scalar.addi v2 c1_i32_146
  let c29_i32 : BitVec 32 := 29#32
  let v150 : BitVec 32 := Scalar.addi v149 c29_i32
  let c32_i32_147 : BitVec 32 := 32#32
  let v151 : BitVec 32 := Scalar.remsi v150 c32_i32_147
  let c1_i32_149 : BitVec 32 := 1#32
  let v152 : BitVec 32 := Scalar.muli v151 c1_i32_149
  let v153 : BitVec 32 := Scalar.addi c0_i32_150 v152
  v153.toNat
def k0_dev31 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_151 : BitVec 32 := 1#32
  let v154 : BitVec 32 := Scalar.addi v2 c1_i32_151
  let c30_i32 : BitVec 32 := 30#32
  let v155 : BitVec 32 := Scalar.addi v154 c30_i32
  let c32_i32_152 : BitVec 32 := 32#32
  let v156 : BitVec 32 := Scalar.remsi v155 c32_i32_152
  let c1_i32_154 : BitVec 32 := 1#32
  let v157 : BitVec 32 := Scalar.muli v156 c1_i32_154
  let v158 : BitVec 32 := Scalar.addi c0_i32_155 v157
  v158.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let c16_i32_341 : BitVec 32 := 16#32
  let v453 : BitVec 1 := Scalar.cmpi .slt v177 c16_i32_341
  let v454 : BitVec 32 := Scalar.extui v453
  let c0_i32_345 : BitVec 32 := 0#32
  let v455 : BitVec 1 := Scalar.cmpi .ne v454 c0_i32_345
  v455

def k0_off1 (d0 : Dev nD) : Fin 2 → Nat :=
  let c8_i32_169 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let v178 : BitVec 32 := Scalar.muli c8_i32_169 v177
  let c0_i32_1957 : BitVec 32 := 0#32
  ![v178.toNat, 0]
def k0_dev32 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let c1_i32_1953 : BitVec 32 := 1#32
  let v1989 : BitVec 32 := Scalar.muli v177 c1_i32_1953
  let v1990 : BitVec 32 := Scalar.addi c0_i32_1954 v1989
  v1990.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let c16_i32_346 : BitVec 32 := 16#32
  let v456 : BitVec 1 := Scalar.cmpi .slt v181 c16_i32_346
  let v457 : BitVec 32 := Scalar.extui v456
  let c0_i32_350 : BitVec 32 := 0#32
  let v458 : BitVec 1 := Scalar.cmpi .ne v457 c0_i32_350
  v458

def k0_off2 (d0 : Dev nD) : Fin 2 → Nat :=
  let c8_i32_173 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let v182 : BitVec 32 := Scalar.muli c8_i32_173 v181
  let c0_i32_1957 : BitVec 32 := 0#32
  ![v182.toNat, 0]
def k0_dev33 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let c1_i32_1953 : BitVec 32 := 1#32
  let v1989 : BitVec 32 := Scalar.muli v181 c1_i32_1953
  let v1990 : BitVec 32 := Scalar.addi c0_i32_1954 v1989
  v1990.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let c16_i32_351 : BitVec 32 := 16#32
  let v459 : BitVec 1 := Scalar.cmpi .slt v185 c16_i32_351
  let v460 : BitVec 32 := Scalar.extui v459
  let c0_i32_355 : BitVec 32 := 0#32
  let v461 : BitVec 1 := Scalar.cmpi .ne v460 c0_i32_355
  v461

def k0_off3 (d0 : Dev nD) : Fin 2 → Nat :=
  let c8_i32_177 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let v186 : BitVec 32 := Scalar.muli c8_i32_177 v185
  let c0_i32_1957 : BitVec 32 := 0#32
  ![v186.toNat, 0]
def k0_dev34 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let c1_i32_1953 : BitVec 32 := 1#32
  let v1989 : BitVec 32 := Scalar.muli v185 c1_i32_1953
  let v1990 : BitVec 32 := Scalar.addi c0_i32_1954 v1989
  v1990.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let c16_i32_356 : BitVec 32 := 16#32
  let v462 : BitVec 1 := Scalar.cmpi .slt v189 c16_i32_356
  let v463 : BitVec 32 := Scalar.extui v462
  let c0_i32_360 : BitVec 32 := 0#32
  let v464 : BitVec 1 := Scalar.cmpi .ne v463 c0_i32_360
  v464

def k0_off4 (d0 : Dev nD) : Fin 2 → Nat :=
  let c8_i32_181 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let v190 : BitVec 32 := Scalar.muli c8_i32_181 v189
  let c0_i32_1957 : BitVec 32 := 0#32
  ![v190.toNat, 0]
def k0_dev35 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let c1_i32_1953 : BitVec 32 := 1#32
  let v1989 : BitVec 32 := Scalar.muli v189 c1_i32_1953
  let v1990 : BitVec 32 := Scalar.addi c0_i32_1954 v1989
  v1990.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let c16_i32_361 : BitVec 32 := 16#32
  let v465 : BitVec 1 := Scalar.cmpi .slt v193 c16_i32_361
  let v466 : BitVec 32 := Scalar.extui v465
  let c0_i32_365 : BitVec 32 := 0#32
  let v467 : BitVec 1 := Scalar.cmpi .ne v466 c0_i32_365
  v467

def k0_off5 (d0 : Dev nD) : Fin 2 → Nat :=
  let c8_i32_185 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let v194 : BitVec 32 := Scalar.muli c8_i32_185 v193
  let c0_i32_1957 : BitVec 32 := 0#32
  ![v194.toNat, 0]
def k0_dev36 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let c1_i32_1953 : BitVec 32 := 1#32
  let v1989 : BitVec 32 := Scalar.muli v193 c1_i32_1953
  let v1990 : BitVec 32 := Scalar.addi c0_i32_1954 v1989
  v1990.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let c16_i32_366 : BitVec 32 := 16#32
  let v468 : BitVec 1 := Scalar.cmpi .slt v197 c16_i32_366
  let v469 : BitVec 32 := Scalar.extui v468
  let c0_i32_370 : BitVec 32 := 0#32
  let v470 : BitVec 1 := Scalar.cmpi .ne v469 c0_i32_370
  v470

def k0_off6 (d0 : Dev nD) : Fin 2 → Nat :=
  let c8_i32_189 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let v198 : BitVec 32 := Scalar.muli c8_i32_189 v197
  let c0_i32_1957 : BitVec 32 := 0#32
  ![v198.toNat, 0]
def k0_dev37 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let c1_i32_1953 : BitVec 32 := 1#32
  let v1989 : BitVec 32 := Scalar.muli v197 c1_i32_1953
  let v1990 : BitVec 32 := Scalar.addi c0_i32_1954 v1989
  v1990.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let c16_i32_371 : BitVec 32 := 16#32
  let v471 : BitVec 1 := Scalar.cmpi .slt v201 c16_i32_371
  let v472 : BitVec 32 := Scalar.extui v471
  let c0_i32_375 : BitVec 32 := 0#32
  let v473 : BitVec 1 := Scalar.cmpi .ne v472 c0_i32_375
  v473

def k0_off7 (d0 : Dev nD) : Fin 2 → Nat :=
  let c8_i32_193 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let v202 : BitVec 32 := Scalar.muli c8_i32_193 v201
  let c0_i32_1957 : BitVec 32 := 0#32
  ![v202.toNat, 0]
def k0_dev38 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let c1_i32_1953 : BitVec 32 := 1#32
  let v1989 : BitVec 32 := Scalar.muli v201 c1_i32_1953
  let v1990 : BitVec 32 := Scalar.addi c0_i32_1954 v1989
  v1990.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let c16_i32_376 : BitVec 32 := 16#32
  let v474 : BitVec 1 := Scalar.cmpi .slt v205 c16_i32_376
  let v475 : BitVec 32 := Scalar.extui v474
  let c0_i32_380 : BitVec 32 := 0#32
  let v476 : BitVec 1 := Scalar.cmpi .ne v475 c0_i32_380
  v476

def k0_off8 (d0 : Dev nD) : Fin 2 → Nat :=
  let c8_i32_197 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let v206 : BitVec 32 := Scalar.muli c8_i32_197 v205
  let c0_i32_1957 : BitVec 32 := 0#32
  ![v206.toNat, 0]
def k0_dev39 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let c1_i32_1953 : BitVec 32 := 1#32
  let v1989 : BitVec 32 := Scalar.muli v205 c1_i32_1953
  let v1990 : BitVec 32 := Scalar.addi c0_i32_1954 v1989
  v1990.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let c16_i32_381 : BitVec 32 := 16#32
  let v477 : BitVec 1 := Scalar.cmpi .slt v209 c16_i32_381
  let v478 : BitVec 32 := Scalar.extui v477
  let c0_i32_385 : BitVec 32 := 0#32
  let v479 : BitVec 1 := Scalar.cmpi .ne v478 c0_i32_385
  v479

def k0_off9 (d0 : Dev nD) : Fin 2 → Nat :=
  let c8_i32_201 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let v210 : BitVec 32 := Scalar.muli c8_i32_201 v209
  let c0_i32_1957 : BitVec 32 := 0#32
  ![v210.toNat, 0]
def k0_dev40 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let c1_i32_1953 : BitVec 32 := 1#32
  let v1989 : BitVec 32 := Scalar.muli v209 c1_i32_1953
  let v1990 : BitVec 32 := Scalar.addi c0_i32_1954 v1989
  v1990.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let c16_i32_386 : BitVec 32 := 16#32
  let v480 : BitVec 1 := Scalar.cmpi .slt v213 c16_i32_386
  let v481 : BitVec 32 := Scalar.extui v480
  let c0_i32_390 : BitVec 32 := 0#32
  let v482 : BitVec 1 := Scalar.cmpi .ne v481 c0_i32_390
  v482

def k0_off10 (d0 : Dev nD) : Fin 2 → Nat :=
  let c8_i32_205 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let v214 : BitVec 32 := Scalar.muli c8_i32_205 v213
  let c0_i32_1957 : BitVec 32 := 0#32
  ![v214.toNat, 0]
def k0_dev41 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let c1_i32_1953 : BitVec 32 := 1#32
  let v1989 : BitVec 32 := Scalar.muli v213 c1_i32_1953
  let v1990 : BitVec 32 := Scalar.addi c0_i32_1954 v1989
  v1990.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let c16_i32_391 : BitVec 32 := 16#32
  let v483 : BitVec 1 := Scalar.cmpi .slt v217 c16_i32_391
  let v484 : BitVec 32 := Scalar.extui v483
  let c0_i32_395 : BitVec 32 := 0#32
  let v485 : BitVec 1 := Scalar.cmpi .ne v484 c0_i32_395
  v485

def k0_off11 (d0 : Dev nD) : Fin 2 → Nat :=
  let c8_i32_209 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let v218 : BitVec 32 := Scalar.muli c8_i32_209 v217
  let c0_i32_1957 : BitVec 32 := 0#32
  ![v218.toNat, 0]
def k0_dev42 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let c1_i32_1953 : BitVec 32 := 1#32
  let v1989 : BitVec 32 := Scalar.muli v217 c1_i32_1953
  let v1990 : BitVec 32 := Scalar.addi c0_i32_1954 v1989
  v1990.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let c16_i32_396 : BitVec 32 := 16#32
  let v486 : BitVec 1 := Scalar.cmpi .slt v221 c16_i32_396
  let v487 : BitVec 32 := Scalar.extui v486
  let c0_i32_400 : BitVec 32 := 0#32
  let v488 : BitVec 1 := Scalar.cmpi .ne v487 c0_i32_400
  v488

def k0_off12 (d0 : Dev nD) : Fin 2 → Nat :=
  let c8_i32_213 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let v222 : BitVec 32 := Scalar.muli c8_i32_213 v221
  let c0_i32_1957 : BitVec 32 := 0#32
  ![v222.toNat, 0]
def k0_dev43 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let c1_i32_1953 : BitVec 32 := 1#32
  let v1989 : BitVec 32 := Scalar.muli v221 c1_i32_1953
  let v1990 : BitVec 32 := Scalar.addi c0_i32_1954 v1989
  v1990.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let c16_i32_401 : BitVec 32 := 16#32
  let v489 : BitVec 1 := Scalar.cmpi .slt v225 c16_i32_401
  let v490 : BitVec 32 := Scalar.extui v489
  let c0_i32_405 : BitVec 32 := 0#32
  let v491 : BitVec 1 := Scalar.cmpi .ne v490 c0_i32_405
  v491

def k0_off13 (d0 : Dev nD) : Fin 2 → Nat :=
  let c8_i32_217 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let v226 : BitVec 32 := Scalar.muli c8_i32_217 v225
  let c0_i32_1957 : BitVec 32 := 0#32
  ![v226.toNat, 0]
def k0_dev44 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let c1_i32_1953 : BitVec 32 := 1#32
  let v1989 : BitVec 32 := Scalar.muli v225 c1_i32_1953
  let v1990 : BitVec 32 := Scalar.addi c0_i32_1954 v1989
  v1990.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let c16_i32_406 : BitVec 32 := 16#32
  let v492 : BitVec 1 := Scalar.cmpi .slt v229 c16_i32_406
  let v493 : BitVec 32 := Scalar.extui v492
  let c0_i32_410 : BitVec 32 := 0#32
  let v494 : BitVec 1 := Scalar.cmpi .ne v493 c0_i32_410
  v494

def k0_off14 (d0 : Dev nD) : Fin 2 → Nat :=
  let c8_i32_221 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let v230 : BitVec 32 := Scalar.muli c8_i32_221 v229
  let c0_i32_1957 : BitVec 32 := 0#32
  ![v230.toNat, 0]
def k0_dev45 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let c1_i32_1953 : BitVec 32 := 1#32
  let v1989 : BitVec 32 := Scalar.muli v229 c1_i32_1953
  let v1990 : BitVec 32 := Scalar.addi c0_i32_1954 v1989
  v1990.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let c16_i32_411 : BitVec 32 := 16#32
  let v495 : BitVec 1 := Scalar.cmpi .slt v233 c16_i32_411
  let v496 : BitVec 32 := Scalar.extui v495
  let c0_i32_415 : BitVec 32 := 0#32
  let v497 : BitVec 1 := Scalar.cmpi .ne v496 c0_i32_415
  v497

def k0_off15 (d0 : Dev nD) : Fin 2 → Nat :=
  let c8_i32_225 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let v234 : BitVec 32 := Scalar.muli c8_i32_225 v233
  let c0_i32_1957 : BitVec 32 := 0#32
  ![v234.toNat, 0]
def k0_dev46 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let c1_i32_1953 : BitVec 32 := 1#32
  let v1989 : BitVec 32 := Scalar.muli v233 c1_i32_1953
  let v1990 : BitVec 32 := Scalar.addi c0_i32_1954 v1989
  v1990.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let c16_i32_416 : BitVec 32 := 16#32
  let v498 : BitVec 1 := Scalar.cmpi .slt v237 c16_i32_416
  let v499 : BitVec 32 := Scalar.extui v498
  let c0_i32_420 : BitVec 32 := 0#32
  let v500 : BitVec 1 := Scalar.cmpi .ne v499 c0_i32_420
  v500

def k0_off16 (d0 : Dev nD) : Fin 2 → Nat :=
  let c8_i32_229 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let v238 : BitVec 32 := Scalar.muli c8_i32_229 v237
  let c0_i32_1957 : BitVec 32 := 0#32
  ![v238.toNat, 0]
def k0_dev47 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let c1_i32_1953 : BitVec 32 := 1#32
  let v1989 : BitVec 32 := Scalar.muli v237 c1_i32_1953
  let v1990 : BitVec 32 := Scalar.addi c0_i32_1954 v1989
  v1990.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let c16_i32_421 : BitVec 32 := 16#32
  let v501 : BitVec 1 := Scalar.cmpi .slt v241 c16_i32_421
  let v502 : BitVec 32 := Scalar.extui v501
  let c0_i32_425 : BitVec 32 := 0#32
  let v503 : BitVec 1 := Scalar.cmpi .ne v502 c0_i32_425
  v503

def k0_off17 (d0 : Dev nD) : Fin 2 → Nat :=
  let c8_i32_233 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let v242 : BitVec 32 := Scalar.muli c8_i32_233 v241
  let c0_i32_1957 : BitVec 32 := 0#32
  ![v242.toNat, 0]
def k0_dev48 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let c1_i32_1953 : BitVec 32 := 1#32
  let v1989 : BitVec 32 := Scalar.muli v241 c1_i32_1953
  let v1990 : BitVec 32 := Scalar.addi c0_i32_1954 v1989
  v1990.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let c16_i32_426 : BitVec 32 := 16#32
  let v504 : BitVec 1 := Scalar.cmpi .slt v245 c16_i32_426
  let v505 : BitVec 32 := Scalar.extui v504
  let c0_i32_430 : BitVec 32 := 0#32
  let v506 : BitVec 1 := Scalar.cmpi .ne v505 c0_i32_430
  v506

def k0_off18 (d0 : Dev nD) : Fin 2 → Nat :=
  let c8_i32_237 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let v246 : BitVec 32 := Scalar.muli c8_i32_237 v245
  let c0_i32_1957 : BitVec 32 := 0#32
  ![v246.toNat, 0]
def k0_dev49 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let c1_i32_1953 : BitVec 32 := 1#32
  let v1989 : BitVec 32 := Scalar.muli v245 c1_i32_1953
  let v1990 : BitVec 32 := Scalar.addi c0_i32_1954 v1989
  v1990.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let c16_i32_431 : BitVec 32 := 16#32
  let v507 : BitVec 1 := Scalar.cmpi .slt v249 c16_i32_431
  let v508 : BitVec 32 := Scalar.extui v507
  let c0_i32_435 : BitVec 32 := 0#32
  let v509 : BitVec 1 := Scalar.cmpi .ne v508 c0_i32_435
  v509

def k0_off19 (d0 : Dev nD) : Fin 2 → Nat :=
  let c8_i32_241 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let v250 : BitVec 32 := Scalar.muli c8_i32_241 v249
  let c0_i32_1957 : BitVec 32 := 0#32
  ![v250.toNat, 0]
def k0_dev50 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let c1_i32_1953 : BitVec 32 := 1#32
  let v1989 : BitVec 32 := Scalar.muli v249 c1_i32_1953
  let v1990 : BitVec 32 := Scalar.addi c0_i32_1954 v1989
  v1990.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let c16_i32_436 : BitVec 32 := 16#32
  let v510 : BitVec 1 := Scalar.cmpi .slt v253 c16_i32_436
  let v511 : BitVec 32 := Scalar.extui v510
  let c0_i32_440 : BitVec 32 := 0#32
  let v512 : BitVec 1 := Scalar.cmpi .ne v511 c0_i32_440
  v512

def k0_off20 (d0 : Dev nD) : Fin 2 → Nat :=
  let c8_i32_245 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let v254 : BitVec 32 := Scalar.muli c8_i32_245 v253
  let c0_i32_1957 : BitVec 32 := 0#32
  ![v254.toNat, 0]
def k0_dev51 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let c1_i32_1953 : BitVec 32 := 1#32
  let v1989 : BitVec 32 := Scalar.muli v253 c1_i32_1953
  let v1990 : BitVec 32 := Scalar.addi c0_i32_1954 v1989
  v1990.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let c16_i32_441 : BitVec 32 := 16#32
  let v513 : BitVec 1 := Scalar.cmpi .slt v257 c16_i32_441
  let v514 : BitVec 32 := Scalar.extui v513
  let c0_i32_445 : BitVec 32 := 0#32
  let v515 : BitVec 1 := Scalar.cmpi .ne v514 c0_i32_445
  v515

def k0_off21 (d0 : Dev nD) : Fin 2 → Nat :=
  let c8_i32_249 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let v258 : BitVec 32 := Scalar.muli c8_i32_249 v257
  let c0_i32_1957 : BitVec 32 := 0#32
  ![v258.toNat, 0]
def k0_dev52 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let c1_i32_1953 : BitVec 32 := 1#32
  let v1989 : BitVec 32 := Scalar.muli v257 c1_i32_1953
  let v1990 : BitVec 32 := Scalar.addi c0_i32_1954 v1989
  v1990.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let c16_i32_446 : BitVec 32 := 16#32
  let v516 : BitVec 1 := Scalar.cmpi .slt v261 c16_i32_446
  let v517 : BitVec 32 := Scalar.extui v516
  let c0_i32_450 : BitVec 32 := 0#32
  let v518 : BitVec 1 := Scalar.cmpi .ne v517 c0_i32_450
  v518

def k0_off22 (d0 : Dev nD) : Fin 2 → Nat :=
  let c8_i32_253 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let v262 : BitVec 32 := Scalar.muli c8_i32_253 v261
  let c0_i32_1957 : BitVec 32 := 0#32
  ![v262.toNat, 0]
def k0_dev53 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let c1_i32_1953 : BitVec 32 := 1#32
  let v1989 : BitVec 32 := Scalar.muli v261 c1_i32_1953
  let v1990 : BitVec 32 := Scalar.addi c0_i32_1954 v1989
  v1990.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let c16_i32_451 : BitVec 32 := 16#32
  let v519 : BitVec 1 := Scalar.cmpi .slt v265 c16_i32_451
  let v520 : BitVec 32 := Scalar.extui v519
  let c0_i32_455 : BitVec 32 := 0#32
  let v521 : BitVec 1 := Scalar.cmpi .ne v520 c0_i32_455
  v521

def k0_off23 (d0 : Dev nD) : Fin 2 → Nat :=
  let c8_i32_257 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let v266 : BitVec 32 := Scalar.muli c8_i32_257 v265
  let c0_i32_1957 : BitVec 32 := 0#32
  ![v266.toNat, 0]
def k0_dev54 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let c1_i32_1953 : BitVec 32 := 1#32
  let v1989 : BitVec 32 := Scalar.muli v265 c1_i32_1953
  let v1990 : BitVec 32 := Scalar.addi c0_i32_1954 v1989
  v1990.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let c16_i32_456 : BitVec 32 := 16#32
  let v522 : BitVec 1 := Scalar.cmpi .slt v269 c16_i32_456
  let v523 : BitVec 32 := Scalar.extui v522
  let c0_i32_460 : BitVec 32 := 0#32
  let v524 : BitVec 1 := Scalar.cmpi .ne v523 c0_i32_460
  v524

def k0_off24 (d0 : Dev nD) : Fin 2 → Nat :=
  let c8_i32_261 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let v270 : BitVec 32 := Scalar.muli c8_i32_261 v269
  let c0_i32_1957 : BitVec 32 := 0#32
  ![v270.toNat, 0]
def k0_dev55 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let c1_i32_1953 : BitVec 32 := 1#32
  let v1989 : BitVec 32 := Scalar.muli v269 c1_i32_1953
  let v1990 : BitVec 32 := Scalar.addi c0_i32_1954 v1989
  v1990.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let c16_i32_461 : BitVec 32 := 16#32
  let v525 : BitVec 1 := Scalar.cmpi .slt v273 c16_i32_461
  let v526 : BitVec 32 := Scalar.extui v525
  let c0_i32_465 : BitVec 32 := 0#32
  let v527 : BitVec 1 := Scalar.cmpi .ne v526 c0_i32_465
  v527

def k0_off25 (d0 : Dev nD) : Fin 2 → Nat :=
  let c8_i32_265 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let v274 : BitVec 32 := Scalar.muli c8_i32_265 v273
  let c0_i32_1957 : BitVec 32 := 0#32
  ![v274.toNat, 0]
def k0_dev56 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let c1_i32_1953 : BitVec 32 := 1#32
  let v1989 : BitVec 32 := Scalar.muli v273 c1_i32_1953
  let v1990 : BitVec 32 := Scalar.addi c0_i32_1954 v1989
  v1990.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let c16_i32_466 : BitVec 32 := 16#32
  let v528 : BitVec 1 := Scalar.cmpi .slt v277 c16_i32_466
  let v529 : BitVec 32 := Scalar.extui v528
  let c0_i32_470 : BitVec 32 := 0#32
  let v530 : BitVec 1 := Scalar.cmpi .ne v529 c0_i32_470
  v530

def k0_off26 (d0 : Dev nD) : Fin 2 → Nat :=
  let c8_i32_269 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let v278 : BitVec 32 := Scalar.muli c8_i32_269 v277
  let c0_i32_1957 : BitVec 32 := 0#32
  ![v278.toNat, 0]
def k0_dev57 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let c1_i32_1953 : BitVec 32 := 1#32
  let v1989 : BitVec 32 := Scalar.muli v277 c1_i32_1953
  let v1990 : BitVec 32 := Scalar.addi c0_i32_1954 v1989
  v1990.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let c16_i32_471 : BitVec 32 := 16#32
  let v531 : BitVec 1 := Scalar.cmpi .slt v281 c16_i32_471
  let v532 : BitVec 32 := Scalar.extui v531
  let c0_i32_475 : BitVec 32 := 0#32
  let v533 : BitVec 1 := Scalar.cmpi .ne v532 c0_i32_475
  v533

def k0_off27 (d0 : Dev nD) : Fin 2 → Nat :=
  let c8_i32_273 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let v282 : BitVec 32 := Scalar.muli c8_i32_273 v281
  let c0_i32_1957 : BitVec 32 := 0#32
  ![v282.toNat, 0]
def k0_dev58 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let c1_i32_1953 : BitVec 32 := 1#32
  let v1989 : BitVec 32 := Scalar.muli v281 c1_i32_1953
  let v1990 : BitVec 32 := Scalar.addi c0_i32_1954 v1989
  v1990.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let c16_i32_476 : BitVec 32 := 16#32
  let v534 : BitVec 1 := Scalar.cmpi .slt v285 c16_i32_476
  let v535 : BitVec 32 := Scalar.extui v534
  let c0_i32_480 : BitVec 32 := 0#32
  let v536 : BitVec 1 := Scalar.cmpi .ne v535 c0_i32_480
  v536

def k0_off28 (d0 : Dev nD) : Fin 2 → Nat :=
  let c8_i32_277 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let v286 : BitVec 32 := Scalar.muli c8_i32_277 v285
  let c0_i32_1957 : BitVec 32 := 0#32
  ![v286.toNat, 0]
def k0_dev59 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let c1_i32_1953 : BitVec 32 := 1#32
  let v1989 : BitVec 32 := Scalar.muli v285 c1_i32_1953
  let v1990 : BitVec 32 := Scalar.addi c0_i32_1954 v1989
  v1990.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let c16_i32_481 : BitVec 32 := 16#32
  let v537 : BitVec 1 := Scalar.cmpi .slt v289 c16_i32_481
  let v538 : BitVec 32 := Scalar.extui v537
  let c0_i32_485 : BitVec 32 := 0#32
  let v539 : BitVec 1 := Scalar.cmpi .ne v538 c0_i32_485
  v539

def k0_off29 (d0 : Dev nD) : Fin 2 → Nat :=
  let c8_i32_281 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let v290 : BitVec 32 := Scalar.muli c8_i32_281 v289
  let c0_i32_1957 : BitVec 32 := 0#32
  ![v290.toNat, 0]
def k0_dev60 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let c1_i32_1953 : BitVec 32 := 1#32
  let v1989 : BitVec 32 := Scalar.muli v289 c1_i32_1953
  let v1990 : BitVec 32 := Scalar.addi c0_i32_1954 v1989
  v1990.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let c16_i32_486 : BitVec 32 := 16#32
  let v540 : BitVec 1 := Scalar.cmpi .slt v293 c16_i32_486
  let v541 : BitVec 32 := Scalar.extui v540
  let c0_i32_490 : BitVec 32 := 0#32
  let v542 : BitVec 1 := Scalar.cmpi .ne v541 c0_i32_490
  v542

def k0_off30 (d0 : Dev nD) : Fin 2 → Nat :=
  let c8_i32_285 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let v294 : BitVec 32 := Scalar.muli c8_i32_285 v293
  let c0_i32_1957 : BitVec 32 := 0#32
  ![v294.toNat, 0]
def k0_dev61 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let c1_i32_1953 : BitVec 32 := 1#32
  let v1989 : BitVec 32 := Scalar.muli v293 c1_i32_1953
  let v1990 : BitVec 32 := Scalar.addi c0_i32_1954 v1989
  v1990.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let c16_i32_491 : BitVec 32 := 16#32
  let v543 : BitVec 1 := Scalar.cmpi .slt v297 c16_i32_491
  let v544 : BitVec 32 := Scalar.extui v543
  let c0_i32_495 : BitVec 32 := 0#32
  let v545 : BitVec 1 := Scalar.cmpi .ne v544 c0_i32_495
  v545

def k0_off31 (d0 : Dev nD) : Fin 2 → Nat :=
  let c8_i32_289 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let v298 : BitVec 32 := Scalar.muli c8_i32_289 v297
  let c0_i32_1957 : BitVec 32 := 0#32
  ![v298.toNat, 0]
def k0_dev62 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let c1_i32_1953 : BitVec 32 := 1#32
  let v1989 : BitVec 32 := Scalar.muli v297 c1_i32_1953
  let v1990 : BitVec 32 := Scalar.addi c0_i32_1954 v1989
  v1990.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let c16_i32_546 : BitVec 32 := 16#32
  let v700 : BitVec 1 := Scalar.cmpi .sge v177 c16_i32_546
  let v701 : BitVec 32 := Scalar.extui v700
  let c0_i32_550 : BitVec 32 := 0#32
  let v702 : BitVec 1 := Scalar.cmpi .ne v701 c0_i32_550
  v702

def k0_off32 (d0 : Dev nD) : Fin 2 → Nat :=
  let c8_i32_169 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let v178 : BitVec 32 := Scalar.muli c8_i32_169 v177
  let c0_i32_1957 : BitVec 32 := 0#32
  ![v178.toNat, 0]
def k0_dev63 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_166 : BitVec 32 := 1#32
  let v175 : BitVec 32 := Scalar.addi v2 c1_i32_166
  let c0_i32_167 : BitVec 32 := 0#32
  let v176 : BitVec 32 := Scalar.addi v175 c0_i32_167
  let c32_i32_168 : BitVec 32 := 32#32
  let v177 : BitVec 32 := Scalar.remsi v176 c32_i32_168
  let c1_i32_1953 : BitVec 32 := 1#32
  let v1989 : BitVec 32 := Scalar.muli v177 c1_i32_1953
  let v1990 : BitVec 32 := Scalar.addi c0_i32_1954 v1989
  v1990.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let c16_i32_551 : BitVec 32 := 16#32
  let v703 : BitVec 1 := Scalar.cmpi .sge v181 c16_i32_551
  let v704 : BitVec 32 := Scalar.extui v703
  let c0_i32_555 : BitVec 32 := 0#32
  let v705 : BitVec 1 := Scalar.cmpi .ne v704 c0_i32_555
  v705

def k0_off33 (d0 : Dev nD) : Fin 2 → Nat :=
  let c8_i32_173 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let v182 : BitVec 32 := Scalar.muli c8_i32_173 v181
  let c0_i32_1957 : BitVec 32 := 0#32
  ![v182.toNat, 0]
def k0_dev64 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v179 : BitVec 32 := Scalar.addi v2 c1_i32_170
  let c1_i32_171 : BitVec 32 := 1#32
  let v180 : BitVec 32 := Scalar.addi v179 c1_i32_171
  let c32_i32_172 : BitVec 32 := 32#32
  let v181 : BitVec 32 := Scalar.remsi v180 c32_i32_172
  let c1_i32_1953 : BitVec 32 := 1#32
  let v1989 : BitVec 32 := Scalar.muli v181 c1_i32_1953
  let v1990 : BitVec 32 := Scalar.addi c0_i32_1954 v1989
  v1990.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let c16_i32_556 : BitVec 32 := 16#32
  let v706 : BitVec 1 := Scalar.cmpi .sge v185 c16_i32_556
  let v707 : BitVec 32 := Scalar.extui v706
  let c0_i32_560 : BitVec 32 := 0#32
  let v708 : BitVec 1 := Scalar.cmpi .ne v707 c0_i32_560
  v708

def k0_off34 (d0 : Dev nD) : Fin 2 → Nat :=
  let c8_i32_177 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let v186 : BitVec 32 := Scalar.muli c8_i32_177 v185
  let c0_i32_1957 : BitVec 32 := 0#32
  ![v186.toNat, 0]
def k0_dev65 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_174 : BitVec 32 := 1#32
  let v183 : BitVec 32 := Scalar.addi v2 c1_i32_174
  let c2_i32_175 : BitVec 32 := 2#32
  let v184 : BitVec 32 := Scalar.addi v183 c2_i32_175
  let c32_i32_176 : BitVec 32 := 32#32
  let v185 : BitVec 32 := Scalar.remsi v184 c32_i32_176
  let c1_i32_1953 : BitVec 32 := 1#32
  let v1989 : BitVec 32 := Scalar.muli v185 c1_i32_1953
  let v1990 : BitVec 32 := Scalar.addi c0_i32_1954 v1989
  v1990.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let c16_i32_561 : BitVec 32 := 16#32
  let v709 : BitVec 1 := Scalar.cmpi .sge v189 c16_i32_561
  let v710 : BitVec 32 := Scalar.extui v709
  let c0_i32_565 : BitVec 32 := 0#32
  let v711 : BitVec 1 := Scalar.cmpi .ne v710 c0_i32_565
  v711

def k0_off35 (d0 : Dev nD) : Fin 2 → Nat :=
  let c8_i32_181 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let v190 : BitVec 32 := Scalar.muli c8_i32_181 v189
  let c0_i32_1957 : BitVec 32 := 0#32
  ![v190.toNat, 0]
def k0_dev66 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_178 : BitVec 32 := 1#32
  let v187 : BitVec 32 := Scalar.addi v2 c1_i32_178
  let c3_i32_179 : BitVec 32 := 3#32
  let v188 : BitVec 32 := Scalar.addi v187 c3_i32_179
  let c32_i32_180 : BitVec 32 := 32#32
  let v189 : BitVec 32 := Scalar.remsi v188 c32_i32_180
  let c1_i32_1953 : BitVec 32 := 1#32
  let v1989 : BitVec 32 := Scalar.muli v189 c1_i32_1953
  let v1990 : BitVec 32 := Scalar.addi c0_i32_1954 v1989
  v1990.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let c16_i32_566 : BitVec 32 := 16#32
  let v712 : BitVec 1 := Scalar.cmpi .sge v193 c16_i32_566
  let v713 : BitVec 32 := Scalar.extui v712
  let c0_i32_570 : BitVec 32 := 0#32
  let v714 : BitVec 1 := Scalar.cmpi .ne v713 c0_i32_570
  v714

def k0_off36 (d0 : Dev nD) : Fin 2 → Nat :=
  let c8_i32_185 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let v194 : BitVec 32 := Scalar.muli c8_i32_185 v193
  let c0_i32_1957 : BitVec 32 := 0#32
  ![v194.toNat, 0]
def k0_dev67 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_182 : BitVec 32 := 1#32
  let v191 : BitVec 32 := Scalar.addi v2 c1_i32_182
  let c4_i32_183 : BitVec 32 := 4#32
  let v192 : BitVec 32 := Scalar.addi v191 c4_i32_183
  let c32_i32_184 : BitVec 32 := 32#32
  let v193 : BitVec 32 := Scalar.remsi v192 c32_i32_184
  let c1_i32_1953 : BitVec 32 := 1#32
  let v1989 : BitVec 32 := Scalar.muli v193 c1_i32_1953
  let v1990 : BitVec 32 := Scalar.addi c0_i32_1954 v1989
  v1990.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let c16_i32_571 : BitVec 32 := 16#32
  let v715 : BitVec 1 := Scalar.cmpi .sge v197 c16_i32_571
  let v716 : BitVec 32 := Scalar.extui v715
  let c0_i32_575 : BitVec 32 := 0#32
  let v717 : BitVec 1 := Scalar.cmpi .ne v716 c0_i32_575
  v717

def k0_off37 (d0 : Dev nD) : Fin 2 → Nat :=
  let c8_i32_189 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let v198 : BitVec 32 := Scalar.muli c8_i32_189 v197
  let c0_i32_1957 : BitVec 32 := 0#32
  ![v198.toNat, 0]
def k0_dev68 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v195 : BitVec 32 := Scalar.addi v2 c1_i32_186
  let c5_i32_187 : BitVec 32 := 5#32
  let v196 : BitVec 32 := Scalar.addi v195 c5_i32_187
  let c32_i32_188 : BitVec 32 := 32#32
  let v197 : BitVec 32 := Scalar.remsi v196 c32_i32_188
  let c1_i32_1953 : BitVec 32 := 1#32
  let v1989 : BitVec 32 := Scalar.muli v197 c1_i32_1953
  let v1990 : BitVec 32 := Scalar.addi c0_i32_1954 v1989
  v1990.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let c16_i32_576 : BitVec 32 := 16#32
  let v718 : BitVec 1 := Scalar.cmpi .sge v201 c16_i32_576
  let v719 : BitVec 32 := Scalar.extui v718
  let c0_i32_580 : BitVec 32 := 0#32
  let v720 : BitVec 1 := Scalar.cmpi .ne v719 c0_i32_580
  v720

def k0_off38 (d0 : Dev nD) : Fin 2 → Nat :=
  let c8_i32_193 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let v202 : BitVec 32 := Scalar.muli c8_i32_193 v201
  let c0_i32_1957 : BitVec 32 := 0#32
  ![v202.toNat, 0]
def k0_dev69 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_190 : BitVec 32 := 1#32
  let v199 : BitVec 32 := Scalar.addi v2 c1_i32_190
  let c6_i32_191 : BitVec 32 := 6#32
  let v200 : BitVec 32 := Scalar.addi v199 c6_i32_191
  let c32_i32_192 : BitVec 32 := 32#32
  let v201 : BitVec 32 := Scalar.remsi v200 c32_i32_192
  let c1_i32_1953 : BitVec 32 := 1#32
  let v1989 : BitVec 32 := Scalar.muli v201 c1_i32_1953
  let v1990 : BitVec 32 := Scalar.addi c0_i32_1954 v1989
  v1990.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let c16_i32_581 : BitVec 32 := 16#32
  let v721 : BitVec 1 := Scalar.cmpi .sge v205 c16_i32_581
  let v722 : BitVec 32 := Scalar.extui v721
  let c0_i32_585 : BitVec 32 := 0#32
  let v723 : BitVec 1 := Scalar.cmpi .ne v722 c0_i32_585
  v723

def k0_off39 (d0 : Dev nD) : Fin 2 → Nat :=
  let c8_i32_197 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let v206 : BitVec 32 := Scalar.muli c8_i32_197 v205
  let c0_i32_1957 : BitVec 32 := 0#32
  ![v206.toNat, 0]
def k0_dev70 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let v203 : BitVec 32 := Scalar.addi v2 c1_i32_194
  let c7_i32_195 : BitVec 32 := 7#32
  let v204 : BitVec 32 := Scalar.addi v203 c7_i32_195
  let c32_i32_196 : BitVec 32 := 32#32
  let v205 : BitVec 32 := Scalar.remsi v204 c32_i32_196
  let c1_i32_1953 : BitVec 32 := 1#32
  let v1989 : BitVec 32 := Scalar.muli v205 c1_i32_1953
  let v1990 : BitVec 32 := Scalar.addi c0_i32_1954 v1989
  v1990.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let c16_i32_586 : BitVec 32 := 16#32
  let v724 : BitVec 1 := Scalar.cmpi .sge v209 c16_i32_586
  let v725 : BitVec 32 := Scalar.extui v724
  let c0_i32_590 : BitVec 32 := 0#32
  let v726 : BitVec 1 := Scalar.cmpi .ne v725 c0_i32_590
  v726

def k0_off40 (d0 : Dev nD) : Fin 2 → Nat :=
  let c8_i32_201 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let v210 : BitVec 32 := Scalar.muli c8_i32_201 v209
  let c0_i32_1957 : BitVec 32 := 0#32
  ![v210.toNat, 0]
def k0_dev71 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_198 : BitVec 32 := 1#32
  let v207 : BitVec 32 := Scalar.addi v2 c1_i32_198
  let c8_i32_199 : BitVec 32 := 8#32
  let v208 : BitVec 32 := Scalar.addi v207 c8_i32_199
  let c32_i32_200 : BitVec 32 := 32#32
  let v209 : BitVec 32 := Scalar.remsi v208 c32_i32_200
  let c1_i32_1953 : BitVec 32 := 1#32
  let v1989 : BitVec 32 := Scalar.muli v209 c1_i32_1953
  let v1990 : BitVec 32 := Scalar.addi c0_i32_1954 v1989
  v1990.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let c16_i32_591 : BitVec 32 := 16#32
  let v727 : BitVec 1 := Scalar.cmpi .sge v213 c16_i32_591
  let v728 : BitVec 32 := Scalar.extui v727
  let c0_i32_595 : BitVec 32 := 0#32
  let v729 : BitVec 1 := Scalar.cmpi .ne v728 c0_i32_595
  v729

def k0_off41 (d0 : Dev nD) : Fin 2 → Nat :=
  let c8_i32_205 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let v214 : BitVec 32 := Scalar.muli c8_i32_205 v213
  let c0_i32_1957 : BitVec 32 := 0#32
  ![v214.toNat, 0]
def k0_dev72 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_202 : BitVec 32 := 1#32
  let v211 : BitVec 32 := Scalar.addi v2 c1_i32_202
  let c9_i32_203 : BitVec 32 := 9#32
  let v212 : BitVec 32 := Scalar.addi v211 c9_i32_203
  let c32_i32_204 : BitVec 32 := 32#32
  let v213 : BitVec 32 := Scalar.remsi v212 c32_i32_204
  let c1_i32_1953 : BitVec 32 := 1#32
  let v1989 : BitVec 32 := Scalar.muli v213 c1_i32_1953
  let v1990 : BitVec 32 := Scalar.addi c0_i32_1954 v1989
  v1990.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let c16_i32_596 : BitVec 32 := 16#32
  let v730 : BitVec 1 := Scalar.cmpi .sge v217 c16_i32_596
  let v731 : BitVec 32 := Scalar.extui v730
  let c0_i32_600 : BitVec 32 := 0#32
  let v732 : BitVec 1 := Scalar.cmpi .ne v731 c0_i32_600
  v732

def k0_off42 (d0 : Dev nD) : Fin 2 → Nat :=
  let c8_i32_209 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let v218 : BitVec 32 := Scalar.muli c8_i32_209 v217
  let c0_i32_1957 : BitVec 32 := 0#32
  ![v218.toNat, 0]
def k0_dev73 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v215 : BitVec 32 := Scalar.addi v2 c1_i32_206
  let c10_i32_207 : BitVec 32 := 10#32
  let v216 : BitVec 32 := Scalar.addi v215 c10_i32_207
  let c32_i32_208 : BitVec 32 := 32#32
  let v217 : BitVec 32 := Scalar.remsi v216 c32_i32_208
  let c1_i32_1953 : BitVec 32 := 1#32
  let v1989 : BitVec 32 := Scalar.muli v217 c1_i32_1953
  let v1990 : BitVec 32 := Scalar.addi c0_i32_1954 v1989
  v1990.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let c16_i32_601 : BitVec 32 := 16#32
  let v733 : BitVec 1 := Scalar.cmpi .sge v221 c16_i32_601
  let v734 : BitVec 32 := Scalar.extui v733
  let c0_i32_605 : BitVec 32 := 0#32
  let v735 : BitVec 1 := Scalar.cmpi .ne v734 c0_i32_605
  v735

def k0_off43 (d0 : Dev nD) : Fin 2 → Nat :=
  let c8_i32_213 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let v222 : BitVec 32 := Scalar.muli c8_i32_213 v221
  let c0_i32_1957 : BitVec 32 := 0#32
  ![v222.toNat, 0]
def k0_dev74 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_210 : BitVec 32 := 1#32
  let v219 : BitVec 32 := Scalar.addi v2 c1_i32_210
  let c11_i32_211 : BitVec 32 := 11#32
  let v220 : BitVec 32 := Scalar.addi v219 c11_i32_211
  let c32_i32_212 : BitVec 32 := 32#32
  let v221 : BitVec 32 := Scalar.remsi v220 c32_i32_212
  let c1_i32_1953 : BitVec 32 := 1#32
  let v1989 : BitVec 32 := Scalar.muli v221 c1_i32_1953
  let v1990 : BitVec 32 := Scalar.addi c0_i32_1954 v1989
  v1990.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let c16_i32_606 : BitVec 32 := 16#32
  let v736 : BitVec 1 := Scalar.cmpi .sge v225 c16_i32_606
  let v737 : BitVec 32 := Scalar.extui v736
  let c0_i32_610 : BitVec 32 := 0#32
  let v738 : BitVec 1 := Scalar.cmpi .ne v737 c0_i32_610
  v738

def k0_off44 (d0 : Dev nD) : Fin 2 → Nat :=
  let c8_i32_217 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let v226 : BitVec 32 := Scalar.muli c8_i32_217 v225
  let c0_i32_1957 : BitVec 32 := 0#32
  ![v226.toNat, 0]
def k0_dev75 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v223 : BitVec 32 := Scalar.addi v2 c1_i32_214
  let c12_i32_215 : BitVec 32 := 12#32
  let v224 : BitVec 32 := Scalar.addi v223 c12_i32_215
  let c32_i32_216 : BitVec 32 := 32#32
  let v225 : BitVec 32 := Scalar.remsi v224 c32_i32_216
  let c1_i32_1953 : BitVec 32 := 1#32
  let v1989 : BitVec 32 := Scalar.muli v225 c1_i32_1953
  let v1990 : BitVec 32 := Scalar.addi c0_i32_1954 v1989
  v1990.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let c16_i32_611 : BitVec 32 := 16#32
  let v739 : BitVec 1 := Scalar.cmpi .sge v229 c16_i32_611
  let v740 : BitVec 32 := Scalar.extui v739
  let c0_i32_615 : BitVec 32 := 0#32
  let v741 : BitVec 1 := Scalar.cmpi .ne v740 c0_i32_615
  v741

def k0_off45 (d0 : Dev nD) : Fin 2 → Nat :=
  let c8_i32_221 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let v230 : BitVec 32 := Scalar.muli c8_i32_221 v229
  let c0_i32_1957 : BitVec 32 := 0#32
  ![v230.toNat, 0]
def k0_dev76 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v227 : BitVec 32 := Scalar.addi v2 c1_i32_218
  let c13_i32_219 : BitVec 32 := 13#32
  let v228 : BitVec 32 := Scalar.addi v227 c13_i32_219
  let c32_i32_220 : BitVec 32 := 32#32
  let v229 : BitVec 32 := Scalar.remsi v228 c32_i32_220
  let c1_i32_1953 : BitVec 32 := 1#32
  let v1989 : BitVec 32 := Scalar.muli v229 c1_i32_1953
  let v1990 : BitVec 32 := Scalar.addi c0_i32_1954 v1989
  v1990.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let c16_i32_616 : BitVec 32 := 16#32
  let v742 : BitVec 1 := Scalar.cmpi .sge v233 c16_i32_616
  let v743 : BitVec 32 := Scalar.extui v742
  let c0_i32_620 : BitVec 32 := 0#32
  let v744 : BitVec 1 := Scalar.cmpi .ne v743 c0_i32_620
  v744

def k0_off46 (d0 : Dev nD) : Fin 2 → Nat :=
  let c8_i32_225 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let v234 : BitVec 32 := Scalar.muli c8_i32_225 v233
  let c0_i32_1957 : BitVec 32 := 0#32
  ![v234.toNat, 0]
def k0_dev77 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v231 : BitVec 32 := Scalar.addi v2 c1_i32_222
  let c14_i32_223 : BitVec 32 := 14#32
  let v232 : BitVec 32 := Scalar.addi v231 c14_i32_223
  let c32_i32_224 : BitVec 32 := 32#32
  let v233 : BitVec 32 := Scalar.remsi v232 c32_i32_224
  let c1_i32_1953 : BitVec 32 := 1#32
  let v1989 : BitVec 32 := Scalar.muli v233 c1_i32_1953
  let v1990 : BitVec 32 := Scalar.addi c0_i32_1954 v1989
  v1990.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let c16_i32_621 : BitVec 32 := 16#32
  let v745 : BitVec 1 := Scalar.cmpi .sge v237 c16_i32_621
  let v746 : BitVec 32 := Scalar.extui v745
  let c0_i32_625 : BitVec 32 := 0#32
  let v747 : BitVec 1 := Scalar.cmpi .ne v746 c0_i32_625
  v747

def k0_off47 (d0 : Dev nD) : Fin 2 → Nat :=
  let c8_i32_229 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let v238 : BitVec 32 := Scalar.muli c8_i32_229 v237
  let c0_i32_1957 : BitVec 32 := 0#32
  ![v238.toNat, 0]
def k0_dev78 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_226 : BitVec 32 := 1#32
  let v235 : BitVec 32 := Scalar.addi v2 c1_i32_226
  let c15_i32_227 : BitVec 32 := 15#32
  let v236 : BitVec 32 := Scalar.addi v235 c15_i32_227
  let c32_i32_228 : BitVec 32 := 32#32
  let v237 : BitVec 32 := Scalar.remsi v236 c32_i32_228
  let c1_i32_1953 : BitVec 32 := 1#32
  let v1989 : BitVec 32 := Scalar.muli v237 c1_i32_1953
  let v1990 : BitVec 32 := Scalar.addi c0_i32_1954 v1989
  v1990.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let c16_i32_626 : BitVec 32 := 16#32
  let v748 : BitVec 1 := Scalar.cmpi .sge v241 c16_i32_626
  let v749 : BitVec 32 := Scalar.extui v748
  let c0_i32_630 : BitVec 32 := 0#32
  let v750 : BitVec 1 := Scalar.cmpi .ne v749 c0_i32_630
  v750

def k0_off48 (d0 : Dev nD) : Fin 2 → Nat :=
  let c8_i32_233 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let v242 : BitVec 32 := Scalar.muli c8_i32_233 v241
  let c0_i32_1957 : BitVec 32 := 0#32
  ![v242.toNat, 0]
def k0_dev79 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_230 : BitVec 32 := 1#32
  let v239 : BitVec 32 := Scalar.addi v2 c1_i32_230
  let c16_i32_231 : BitVec 32 := 16#32
  let v240 : BitVec 32 := Scalar.addi v239 c16_i32_231
  let c32_i32_232 : BitVec 32 := 32#32
  let v241 : BitVec 32 := Scalar.remsi v240 c32_i32_232
  let c1_i32_1953 : BitVec 32 := 1#32
  let v1989 : BitVec 32 := Scalar.muli v241 c1_i32_1953
  let v1990 : BitVec 32 := Scalar.addi c0_i32_1954 v1989
  v1990.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let c16_i32_631 : BitVec 32 := 16#32
  let v751 : BitVec 1 := Scalar.cmpi .sge v245 c16_i32_631
  let v752 : BitVec 32 := Scalar.extui v751
  let c0_i32_635 : BitVec 32 := 0#32
  let v753 : BitVec 1 := Scalar.cmpi .ne v752 c0_i32_635
  v753

def k0_off49 (d0 : Dev nD) : Fin 2 → Nat :=
  let c8_i32_237 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let v246 : BitVec 32 := Scalar.muli c8_i32_237 v245
  let c0_i32_1957 : BitVec 32 := 0#32
  ![v246.toNat, 0]
def k0_dev80 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v243 : BitVec 32 := Scalar.addi v2 c1_i32_234
  let c17_i32_235 : BitVec 32 := 17#32
  let v244 : BitVec 32 := Scalar.addi v243 c17_i32_235
  let c32_i32_236 : BitVec 32 := 32#32
  let v245 : BitVec 32 := Scalar.remsi v244 c32_i32_236
  let c1_i32_1953 : BitVec 32 := 1#32
  let v1989 : BitVec 32 := Scalar.muli v245 c1_i32_1953
  let v1990 : BitVec 32 := Scalar.addi c0_i32_1954 v1989
  v1990.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let c16_i32_636 : BitVec 32 := 16#32
  let v754 : BitVec 1 := Scalar.cmpi .sge v249 c16_i32_636
  let v755 : BitVec 32 := Scalar.extui v754
  let c0_i32_640 : BitVec 32 := 0#32
  let v756 : BitVec 1 := Scalar.cmpi .ne v755 c0_i32_640
  v756

def k0_off50 (d0 : Dev nD) : Fin 2 → Nat :=
  let c8_i32_241 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let v250 : BitVec 32 := Scalar.muli c8_i32_241 v249
  let c0_i32_1957 : BitVec 32 := 0#32
  ![v250.toNat, 0]
def k0_dev81 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_238 : BitVec 32 := 1#32
  let v247 : BitVec 32 := Scalar.addi v2 c1_i32_238
  let c18_i32_239 : BitVec 32 := 18#32
  let v248 : BitVec 32 := Scalar.addi v247 c18_i32_239
  let c32_i32_240 : BitVec 32 := 32#32
  let v249 : BitVec 32 := Scalar.remsi v248 c32_i32_240
  let c1_i32_1953 : BitVec 32 := 1#32
  let v1989 : BitVec 32 := Scalar.muli v249 c1_i32_1953
  let v1990 : BitVec 32 := Scalar.addi c0_i32_1954 v1989
  v1990.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let c16_i32_641 : BitVec 32 := 16#32
  let v757 : BitVec 1 := Scalar.cmpi .sge v253 c16_i32_641
  let v758 : BitVec 32 := Scalar.extui v757
  let c0_i32_645 : BitVec 32 := 0#32
  let v759 : BitVec 1 := Scalar.cmpi .ne v758 c0_i32_645
  v759

def k0_off51 (d0 : Dev nD) : Fin 2 → Nat :=
  let c8_i32_245 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let v254 : BitVec 32 := Scalar.muli c8_i32_245 v253
  let c0_i32_1957 : BitVec 32 := 0#32
  ![v254.toNat, 0]
def k0_dev82 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v251 : BitVec 32 := Scalar.addi v2 c1_i32_242
  let c19_i32_243 : BitVec 32 := 19#32
  let v252 : BitVec 32 := Scalar.addi v251 c19_i32_243
  let c32_i32_244 : BitVec 32 := 32#32
  let v253 : BitVec 32 := Scalar.remsi v252 c32_i32_244
  let c1_i32_1953 : BitVec 32 := 1#32
  let v1989 : BitVec 32 := Scalar.muli v253 c1_i32_1953
  let v1990 : BitVec 32 := Scalar.addi c0_i32_1954 v1989
  v1990.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let c16_i32_646 : BitVec 32 := 16#32
  let v760 : BitVec 1 := Scalar.cmpi .sge v257 c16_i32_646
  let v761 : BitVec 32 := Scalar.extui v760
  let c0_i32_650 : BitVec 32 := 0#32
  let v762 : BitVec 1 := Scalar.cmpi .ne v761 c0_i32_650
  v762

def k0_off52 (d0 : Dev nD) : Fin 2 → Nat :=
  let c8_i32_249 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let v258 : BitVec 32 := Scalar.muli c8_i32_249 v257
  let c0_i32_1957 : BitVec 32 := 0#32
  ![v258.toNat, 0]
def k0_dev83 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v255 : BitVec 32 := Scalar.addi v2 c1_i32_246
  let c20_i32_247 : BitVec 32 := 20#32
  let v256 : BitVec 32 := Scalar.addi v255 c20_i32_247
  let c32_i32_248 : BitVec 32 := 32#32
  let v257 : BitVec 32 := Scalar.remsi v256 c32_i32_248
  let c1_i32_1953 : BitVec 32 := 1#32
  let v1989 : BitVec 32 := Scalar.muli v257 c1_i32_1953
  let v1990 : BitVec 32 := Scalar.addi c0_i32_1954 v1989
  v1990.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let c16_i32_651 : BitVec 32 := 16#32
  let v763 : BitVec 1 := Scalar.cmpi .sge v261 c16_i32_651
  let v764 : BitVec 32 := Scalar.extui v763
  let c0_i32_655 : BitVec 32 := 0#32
  let v765 : BitVec 1 := Scalar.cmpi .ne v764 c0_i32_655
  v765

def k0_off53 (d0 : Dev nD) : Fin 2 → Nat :=
  let c8_i32_253 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let v262 : BitVec 32 := Scalar.muli c8_i32_253 v261
  let c0_i32_1957 : BitVec 32 := 0#32
  ![v262.toNat, 0]
def k0_dev84 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v259 : BitVec 32 := Scalar.addi v2 c1_i32_250
  let c21_i32_251 : BitVec 32 := 21#32
  let v260 : BitVec 32 := Scalar.addi v259 c21_i32_251
  let c32_i32_252 : BitVec 32 := 32#32
  let v261 : BitVec 32 := Scalar.remsi v260 c32_i32_252
  let c1_i32_1953 : BitVec 32 := 1#32
  let v1989 : BitVec 32 := Scalar.muli v261 c1_i32_1953
  let v1990 : BitVec 32 := Scalar.addi c0_i32_1954 v1989
  v1990.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let c16_i32_656 : BitVec 32 := 16#32
  let v766 : BitVec 1 := Scalar.cmpi .sge v265 c16_i32_656
  let v767 : BitVec 32 := Scalar.extui v766
  let c0_i32_660 : BitVec 32 := 0#32
  let v768 : BitVec 1 := Scalar.cmpi .ne v767 c0_i32_660
  v768

def k0_off54 (d0 : Dev nD) : Fin 2 → Nat :=
  let c8_i32_257 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let v266 : BitVec 32 := Scalar.muli c8_i32_257 v265
  let c0_i32_1957 : BitVec 32 := 0#32
  ![v266.toNat, 0]
def k0_dev85 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_254 : BitVec 32 := 1#32
  let v263 : BitVec 32 := Scalar.addi v2 c1_i32_254
  let c22_i32_255 : BitVec 32 := 22#32
  let v264 : BitVec 32 := Scalar.addi v263 c22_i32_255
  let c32_i32_256 : BitVec 32 := 32#32
  let v265 : BitVec 32 := Scalar.remsi v264 c32_i32_256
  let c1_i32_1953 : BitVec 32 := 1#32
  let v1989 : BitVec 32 := Scalar.muli v265 c1_i32_1953
  let v1990 : BitVec 32 := Scalar.addi c0_i32_1954 v1989
  v1990.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let c16_i32_661 : BitVec 32 := 16#32
  let v769 : BitVec 1 := Scalar.cmpi .sge v269 c16_i32_661
  let v770 : BitVec 32 := Scalar.extui v769
  let c0_i32_665 : BitVec 32 := 0#32
  let v771 : BitVec 1 := Scalar.cmpi .ne v770 c0_i32_665
  v771

def k0_off55 (d0 : Dev nD) : Fin 2 → Nat :=
  let c8_i32_261 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let v270 : BitVec 32 := Scalar.muli c8_i32_261 v269
  let c0_i32_1957 : BitVec 32 := 0#32
  ![v270.toNat, 0]
def k0_dev86 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let v267 : BitVec 32 := Scalar.addi v2 c1_i32_258
  let c23_i32_259 : BitVec 32 := 23#32
  let v268 : BitVec 32 := Scalar.addi v267 c23_i32_259
  let c32_i32_260 : BitVec 32 := 32#32
  let v269 : BitVec 32 := Scalar.remsi v268 c32_i32_260
  let c1_i32_1953 : BitVec 32 := 1#32
  let v1989 : BitVec 32 := Scalar.muli v269 c1_i32_1953
  let v1990 : BitVec 32 := Scalar.addi c0_i32_1954 v1989
  v1990.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let c16_i32_666 : BitVec 32 := 16#32
  let v772 : BitVec 1 := Scalar.cmpi .sge v273 c16_i32_666
  let v773 : BitVec 32 := Scalar.extui v772
  let c0_i32_670 : BitVec 32 := 0#32
  let v774 : BitVec 1 := Scalar.cmpi .ne v773 c0_i32_670
  v774

def k0_off56 (d0 : Dev nD) : Fin 2 → Nat :=
  let c8_i32_265 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let v274 : BitVec 32 := Scalar.muli c8_i32_265 v273
  let c0_i32_1957 : BitVec 32 := 0#32
  ![v274.toNat, 0]
def k0_dev87 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_262 : BitVec 32 := 1#32
  let v271 : BitVec 32 := Scalar.addi v2 c1_i32_262
  let c24_i32_263 : BitVec 32 := 24#32
  let v272 : BitVec 32 := Scalar.addi v271 c24_i32_263
  let c32_i32_264 : BitVec 32 := 32#32
  let v273 : BitVec 32 := Scalar.remsi v272 c32_i32_264
  let c1_i32_1953 : BitVec 32 := 1#32
  let v1989 : BitVec 32 := Scalar.muli v273 c1_i32_1953
  let v1990 : BitVec 32 := Scalar.addi c0_i32_1954 v1989
  v1990.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let c16_i32_671 : BitVec 32 := 16#32
  let v775 : BitVec 1 := Scalar.cmpi .sge v277 c16_i32_671
  let v776 : BitVec 32 := Scalar.extui v775
  let c0_i32_675 : BitVec 32 := 0#32
  let v777 : BitVec 1 := Scalar.cmpi .ne v776 c0_i32_675
  v777

def k0_off57 (d0 : Dev nD) : Fin 2 → Nat :=
  let c8_i32_269 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let v278 : BitVec 32 := Scalar.muli c8_i32_269 v277
  let c0_i32_1957 : BitVec 32 := 0#32
  ![v278.toNat, 0]
def k0_dev88 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_266 : BitVec 32 := 1#32
  let v275 : BitVec 32 := Scalar.addi v2 c1_i32_266
  let c25_i32_267 : BitVec 32 := 25#32
  let v276 : BitVec 32 := Scalar.addi v275 c25_i32_267
  let c32_i32_268 : BitVec 32 := 32#32
  let v277 : BitVec 32 := Scalar.remsi v276 c32_i32_268
  let c1_i32_1953 : BitVec 32 := 1#32
  let v1989 : BitVec 32 := Scalar.muli v277 c1_i32_1953
  let v1990 : BitVec 32 := Scalar.addi c0_i32_1954 v1989
  v1990.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let c16_i32_676 : BitVec 32 := 16#32
  let v778 : BitVec 1 := Scalar.cmpi .sge v281 c16_i32_676
  let v779 : BitVec 32 := Scalar.extui v778
  let c0_i32_680 : BitVec 32 := 0#32
  let v780 : BitVec 1 := Scalar.cmpi .ne v779 c0_i32_680
  v780

def k0_off58 (d0 : Dev nD) : Fin 2 → Nat :=
  let c8_i32_273 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let v282 : BitVec 32 := Scalar.muli c8_i32_273 v281
  let c0_i32_1957 : BitVec 32 := 0#32
  ![v282.toNat, 0]
def k0_dev89 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_270 : BitVec 32 := 1#32
  let v279 : BitVec 32 := Scalar.addi v2 c1_i32_270
  let c26_i32_271 : BitVec 32 := 26#32
  let v280 : BitVec 32 := Scalar.addi v279 c26_i32_271
  let c32_i32_272 : BitVec 32 := 32#32
  let v281 : BitVec 32 := Scalar.remsi v280 c32_i32_272
  let c1_i32_1953 : BitVec 32 := 1#32
  let v1989 : BitVec 32 := Scalar.muli v281 c1_i32_1953
  let v1990 : BitVec 32 := Scalar.addi c0_i32_1954 v1989
  v1990.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let c16_i32_681 : BitVec 32 := 16#32
  let v781 : BitVec 1 := Scalar.cmpi .sge v285 c16_i32_681
  let v782 : BitVec 32 := Scalar.extui v781
  let c0_i32_685 : BitVec 32 := 0#32
  let v783 : BitVec 1 := Scalar.cmpi .ne v782 c0_i32_685
  v783

def k0_off59 (d0 : Dev nD) : Fin 2 → Nat :=
  let c8_i32_277 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let v286 : BitVec 32 := Scalar.muli c8_i32_277 v285
  let c0_i32_1957 : BitVec 32 := 0#32
  ![v286.toNat, 0]
def k0_dev90 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v283 : BitVec 32 := Scalar.addi v2 c1_i32_274
  let c27_i32_275 : BitVec 32 := 27#32
  let v284 : BitVec 32 := Scalar.addi v283 c27_i32_275
  let c32_i32_276 : BitVec 32 := 32#32
  let v285 : BitVec 32 := Scalar.remsi v284 c32_i32_276
  let c1_i32_1953 : BitVec 32 := 1#32
  let v1989 : BitVec 32 := Scalar.muli v285 c1_i32_1953
  let v1990 : BitVec 32 := Scalar.addi c0_i32_1954 v1989
  v1990.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let c16_i32_686 : BitVec 32 := 16#32
  let v784 : BitVec 1 := Scalar.cmpi .sge v289 c16_i32_686
  let v785 : BitVec 32 := Scalar.extui v784
  let c0_i32_690 : BitVec 32 := 0#32
  let v786 : BitVec 1 := Scalar.cmpi .ne v785 c0_i32_690
  v786

def k0_off60 (d0 : Dev nD) : Fin 2 → Nat :=
  let c8_i32_281 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let v290 : BitVec 32 := Scalar.muli c8_i32_281 v289
  let c0_i32_1957 : BitVec 32 := 0#32
  ![v290.toNat, 0]
def k0_dev91 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v287 : BitVec 32 := Scalar.addi v2 c1_i32_278
  let c28_i32_279 : BitVec 32 := 28#32
  let v288 : BitVec 32 := Scalar.addi v287 c28_i32_279
  let c32_i32_280 : BitVec 32 := 32#32
  let v289 : BitVec 32 := Scalar.remsi v288 c32_i32_280
  let c1_i32_1953 : BitVec 32 := 1#32
  let v1989 : BitVec 32 := Scalar.muli v289 c1_i32_1953
  let v1990 : BitVec 32 := Scalar.addi c0_i32_1954 v1989
  v1990.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let c16_i32_691 : BitVec 32 := 16#32
  let v787 : BitVec 1 := Scalar.cmpi .sge v293 c16_i32_691
  let v788 : BitVec 32 := Scalar.extui v787
  let c0_i32_695 : BitVec 32 := 0#32
  let v789 : BitVec 1 := Scalar.cmpi .ne v788 c0_i32_695
  v789

def k0_off61 (d0 : Dev nD) : Fin 2 → Nat :=
  let c8_i32_285 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let v294 : BitVec 32 := Scalar.muli c8_i32_285 v293
  let c0_i32_1957 : BitVec 32 := 0#32
  ![v294.toNat, 0]
def k0_dev92 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_282 : BitVec 32 := 1#32
  let v291 : BitVec 32 := Scalar.addi v2 c1_i32_282
  let c29_i32_283 : BitVec 32 := 29#32
  let v292 : BitVec 32 := Scalar.addi v291 c29_i32_283
  let c32_i32_284 : BitVec 32 := 32#32
  let v293 : BitVec 32 := Scalar.remsi v292 c32_i32_284
  let c1_i32_1953 : BitVec 32 := 1#32
  let v1989 : BitVec 32 := Scalar.muli v293 c1_i32_1953
  let v1990 : BitVec 32 := Scalar.addi c0_i32_1954 v1989
  v1990.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let c16_i32_696 : BitVec 32 := 16#32
  let v790 : BitVec 1 := Scalar.cmpi .sge v297 c16_i32_696
  let v791 : BitVec 32 := Scalar.extui v790
  let c0_i32_700 : BitVec 32 := 0#32
  let v792 : BitVec 1 := Scalar.cmpi .ne v791 c0_i32_700
  v792

def k0_off62 (d0 : Dev nD) : Fin 2 → Nat :=
  let c8_i32_289 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let v298 : BitVec 32 := Scalar.muli c8_i32_289 v297
  let c0_i32_1957 : BitVec 32 := 0#32
  ![v298.toNat, 0]
def k0_dev93 (d0 : Dev nD) : Nat :=
  let c0_i32_1954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_286 : BitVec 32 := 1#32
  let v295 : BitVec 32 := Scalar.addi v2 c1_i32_286
  let c30_i32_287 : BitVec 32 := 30#32
  let v296 : BitVec 32 := Scalar.addi v295 c30_i32_287
  let c32_i32_288 : BitVec 32 := 32#32
  let v297 : BitVec 32 := Scalar.remsi v296 c32_i32_288
  let c1_i32_1953 : BitVec 32 := 1#32
  let v1989 : BitVec 32 := Scalar.muli v297 c1_i32_1953
  let v1990 : BitVec 32 := Scalar.addi c0_i32_1954 v1989
  v1990.toNat
def k0_off63 (d0 : Dev nD) : Fin 2 → Nat :=
  let c8_i32_701 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v793 : BitVec 32 := Scalar.muli c8_i32_701 v2
  let c0_i32_709 : BitVec 32 := 0#32
  ![v793.toNat, 0]
def k0_off64 (d0 : Dev nD) : Fin 2 → Nat :=
  let c8_i32_701 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v793 : BitVec 32 := Scalar.muli c8_i32_701 v2
  let v1011 : Index := Scalar.indexCast v793
  let c0_950 : Index := 0#32
  ![v1011.toNat, 0]
def k0_dev94 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_956 : BitVec 32 := 1#32
  let v1023 : BitVec 32 := Scalar.addi v2 c1_i32_956
  let c0_i32_957 : BitVec 32 := 0#32
  let v1024 : BitVec 32 := Scalar.addi v1023 c0_i32_957
  let c32_i32_958 : BitVec 32 := 32#32
  let v1025 : BitVec 32 := Scalar.remsi v1024 c32_i32_958
  let c1_i32_961 : BitVec 32 := 1#32
  let v1026 : BitVec 32 := Scalar.muli v1025 c1_i32_961
  let v1027 : BitVec 32 := Scalar.addi c0_i32_962 v1026
  v1027.toNat
def k0_dev95 (d0 : Dev nD) : Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_965 : BitVec 32 := 1#32
  let v1034 : BitVec 32 := Scalar.addi v2 c1_i32_965
  let c1_i32_966 : BitVec 32 := 1#32
  let v1035 : BitVec 32 := Scalar.addi v1034 c1_i32_966
  let c32_i32_967 : BitVec 32 := 32#32
  let v1036 : BitVec 32 := Scalar.remsi v1035 c32_i32_967
  let c1_i32_970 : BitVec 32 := 1#32
  let v1037 : BitVec 32 := Scalar.muli v1036 c1_i32_970
  let v1038 : BitVec 32 := Scalar.addi c0_i32_971 v1037
  v1038.toNat
def k0_dev96 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_974 : BitVec 32 := 1#32
  let v1045 : BitVec 32 := Scalar.addi v2 c1_i32_974
  let c2_i32_975 : BitVec 32 := 2#32
  let v1046 : BitVec 32 := Scalar.addi v1045 c2_i32_975
  let c32_i32_976 : BitVec 32 := 32#32
  let v1047 : BitVec 32 := Scalar.remsi v1046 c32_i32_976
  let c1_i32_979 : BitVec 32 := 1#32
  let v1048 : BitVec 32 := Scalar.muli v1047 c1_i32_979
  let v1049 : BitVec 32 := Scalar.addi c0_i32_980 v1048
  v1049.toNat
def k0_dev97 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_983 : BitVec 32 := 1#32
  let v1056 : BitVec 32 := Scalar.addi v2 c1_i32_983
  let c3_i32_984 : BitVec 32 := 3#32
  let v1057 : BitVec 32 := Scalar.addi v1056 c3_i32_984
  let c32_i32_985 : BitVec 32 := 32#32
  let v1058 : BitVec 32 := Scalar.remsi v1057 c32_i32_985
  let c1_i32_988 : BitVec 32 := 1#32
  let v1059 : BitVec 32 := Scalar.muli v1058 c1_i32_988
  let v1060 : BitVec 32 := Scalar.addi c0_i32_989 v1059
  v1060.toNat
def k0_dev98 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_992 : BitVec 32 := 1#32
  let v1067 : BitVec 32 := Scalar.addi v2 c1_i32_992
  let c4_i32_993 : BitVec 32 := 4#32
  let v1068 : BitVec 32 := Scalar.addi v1067 c4_i32_993
  let c32_i32_994 : BitVec 32 := 32#32
  let v1069 : BitVec 32 := Scalar.remsi v1068 c32_i32_994
  let c1_i32_997 : BitVec 32 := 1#32
  let v1070 : BitVec 32 := Scalar.muli v1069 c1_i32_997
  let v1071 : BitVec 32 := Scalar.addi c0_i32_998 v1070
  v1071.toNat
def k0_dev99 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1001 : BitVec 32 := 1#32
  let v1078 : BitVec 32 := Scalar.addi v2 c1_i32_1001
  let c5_i32_1002 : BitVec 32 := 5#32
  let v1079 : BitVec 32 := Scalar.addi v1078 c5_i32_1002
  let c32_i32_1003 : BitVec 32 := 32#32
  let v1080 : BitVec 32 := Scalar.remsi v1079 c32_i32_1003
  let c1_i32_1006 : BitVec 32 := 1#32
  let v1081 : BitVec 32 := Scalar.muli v1080 c1_i32_1006
  let v1082 : BitVec 32 := Scalar.addi c0_i32_1007 v1081
  v1082.toNat
def k0_dev100 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1010 : BitVec 32 := 1#32
  let v1089 : BitVec 32 := Scalar.addi v2 c1_i32_1010
  let c6_i32_1011 : BitVec 32 := 6#32
  let v1090 : BitVec 32 := Scalar.addi v1089 c6_i32_1011
  let c32_i32_1012 : BitVec 32 := 32#32
  let v1091 : BitVec 32 := Scalar.remsi v1090 c32_i32_1012
  let c1_i32_1015 : BitVec 32 := 1#32
  let v1092 : BitVec 32 := Scalar.muli v1091 c1_i32_1015
  let v1093 : BitVec 32 := Scalar.addi c0_i32_1016 v1092
  v1093.toNat
def k0_dev101 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1019 : BitVec 32 := 1#32
  let v1100 : BitVec 32 := Scalar.addi v2 c1_i32_1019
  let c7_i32_1020 : BitVec 32 := 7#32
  let v1101 : BitVec 32 := Scalar.addi v1100 c7_i32_1020
  let c32_i32_1021 : BitVec 32 := 32#32
  let v1102 : BitVec 32 := Scalar.remsi v1101 c32_i32_1021
  let c1_i32_1024 : BitVec 32 := 1#32
  let v1103 : BitVec 32 := Scalar.muli v1102 c1_i32_1024
  let v1104 : BitVec 32 := Scalar.addi c0_i32_1025 v1103
  v1104.toNat
def k0_dev102 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1028 : BitVec 32 := 1#32
  let v1111 : BitVec 32 := Scalar.addi v2 c1_i32_1028
  let c8_i32_1029 : BitVec 32 := 8#32
  let v1112 : BitVec 32 := Scalar.addi v1111 c8_i32_1029
  let c32_i32_1030 : BitVec 32 := 32#32
  let v1113 : BitVec 32 := Scalar.remsi v1112 c32_i32_1030
  let c1_i32_1033 : BitVec 32 := 1#32
  let v1114 : BitVec 32 := Scalar.muli v1113 c1_i32_1033
  let v1115 : BitVec 32 := Scalar.addi c0_i32_1034 v1114
  v1115.toNat
def k0_dev103 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1037 : BitVec 32 := 1#32
  let v1122 : BitVec 32 := Scalar.addi v2 c1_i32_1037
  let c9_i32_1038 : BitVec 32 := 9#32
  let v1123 : BitVec 32 := Scalar.addi v1122 c9_i32_1038
  let c32_i32_1039 : BitVec 32 := 32#32
  let v1124 : BitVec 32 := Scalar.remsi v1123 c32_i32_1039
  let c1_i32_1042 : BitVec 32 := 1#32
  let v1125 : BitVec 32 := Scalar.muli v1124 c1_i32_1042
  let v1126 : BitVec 32 := Scalar.addi c0_i32_1043 v1125
  v1126.toNat
def k0_dev104 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1046 : BitVec 32 := 1#32
  let v1133 : BitVec 32 := Scalar.addi v2 c1_i32_1046
  let c10_i32_1047 : BitVec 32 := 10#32
  let v1134 : BitVec 32 := Scalar.addi v1133 c10_i32_1047
  let c32_i32_1048 : BitVec 32 := 32#32
  let v1135 : BitVec 32 := Scalar.remsi v1134 c32_i32_1048
  let c1_i32_1051 : BitVec 32 := 1#32
  let v1136 : BitVec 32 := Scalar.muli v1135 c1_i32_1051
  let v1137 : BitVec 32 := Scalar.addi c0_i32_1052 v1136
  v1137.toNat
def k0_dev105 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1055 : BitVec 32 := 1#32
  let v1144 : BitVec 32 := Scalar.addi v2 c1_i32_1055
  let c11_i32_1056 : BitVec 32 := 11#32
  let v1145 : BitVec 32 := Scalar.addi v1144 c11_i32_1056
  let c32_i32_1057 : BitVec 32 := 32#32
  let v1146 : BitVec 32 := Scalar.remsi v1145 c32_i32_1057
  let c1_i32_1060 : BitVec 32 := 1#32
  let v1147 : BitVec 32 := Scalar.muli v1146 c1_i32_1060
  let v1148 : BitVec 32 := Scalar.addi c0_i32_1061 v1147
  v1148.toNat
def k0_dev106 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1064 : BitVec 32 := 1#32
  let v1155 : BitVec 32 := Scalar.addi v2 c1_i32_1064
  let c12_i32_1065 : BitVec 32 := 12#32
  let v1156 : BitVec 32 := Scalar.addi v1155 c12_i32_1065
  let c32_i32_1066 : BitVec 32 := 32#32
  let v1157 : BitVec 32 := Scalar.remsi v1156 c32_i32_1066
  let c1_i32_1069 : BitVec 32 := 1#32
  let v1158 : BitVec 32 := Scalar.muli v1157 c1_i32_1069
  let v1159 : BitVec 32 := Scalar.addi c0_i32_1070 v1158
  v1159.toNat
def k0_dev107 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1073 : BitVec 32 := 1#32
  let v1166 : BitVec 32 := Scalar.addi v2 c1_i32_1073
  let c13_i32_1074 : BitVec 32 := 13#32
  let v1167 : BitVec 32 := Scalar.addi v1166 c13_i32_1074
  let c32_i32_1075 : BitVec 32 := 32#32
  let v1168 : BitVec 32 := Scalar.remsi v1167 c32_i32_1075
  let c1_i32_1078 : BitVec 32 := 1#32
  let v1169 : BitVec 32 := Scalar.muli v1168 c1_i32_1078
  let v1170 : BitVec 32 := Scalar.addi c0_i32_1079 v1169
  v1170.toNat
def k0_dev108 (d0 : Dev nD) : Nat :=
  let c0_i32_1088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1082 : BitVec 32 := 1#32
  let v1177 : BitVec 32 := Scalar.addi v2 c1_i32_1082
  let c14_i32_1083 : BitVec 32 := 14#32
  let v1178 : BitVec 32 := Scalar.addi v1177 c14_i32_1083
  let c32_i32_1084 : BitVec 32 := 32#32
  let v1179 : BitVec 32 := Scalar.remsi v1178 c32_i32_1084
  let c1_i32_1087 : BitVec 32 := 1#32
  let v1180 : BitVec 32 := Scalar.muli v1179 c1_i32_1087
  let v1181 : BitVec 32 := Scalar.addi c0_i32_1088 v1180
  v1181.toNat
def k0_dev109 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1091 : BitVec 32 := 1#32
  let v1188 : BitVec 32 := Scalar.addi v2 c1_i32_1091
  let c15_i32_1092 : BitVec 32 := 15#32
  let v1189 : BitVec 32 := Scalar.addi v1188 c15_i32_1092
  let c32_i32_1093 : BitVec 32 := 32#32
  let v1190 : BitVec 32 := Scalar.remsi v1189 c32_i32_1093
  let c1_i32_1096 : BitVec 32 := 1#32
  let v1191 : BitVec 32 := Scalar.muli v1190 c1_i32_1096
  let v1192 : BitVec 32 := Scalar.addi c0_i32_1097 v1191
  v1192.toNat
def k0_dev110 (d0 : Dev nD) : Nat :=
  let c0_i32_1106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1100 : BitVec 32 := 1#32
  let v1199 : BitVec 32 := Scalar.addi v2 c1_i32_1100
  let c16_i32_1101 : BitVec 32 := 16#32
  let v1200 : BitVec 32 := Scalar.addi v1199 c16_i32_1101
  let c32_i32_1102 : BitVec 32 := 32#32
  let v1201 : BitVec 32 := Scalar.remsi v1200 c32_i32_1102
  let c1_i32_1105 : BitVec 32 := 1#32
  let v1202 : BitVec 32 := Scalar.muli v1201 c1_i32_1105
  let v1203 : BitVec 32 := Scalar.addi c0_i32_1106 v1202
  v1203.toNat
def k0_dev111 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1109 : BitVec 32 := 1#32
  let v1210 : BitVec 32 := Scalar.addi v2 c1_i32_1109
  let c17_i32_1110 : BitVec 32 := 17#32
  let v1211 : BitVec 32 := Scalar.addi v1210 c17_i32_1110
  let c32_i32_1111 : BitVec 32 := 32#32
  let v1212 : BitVec 32 := Scalar.remsi v1211 c32_i32_1111
  let c1_i32_1114 : BitVec 32 := 1#32
  let v1213 : BitVec 32 := Scalar.muli v1212 c1_i32_1114
  let v1214 : BitVec 32 := Scalar.addi c0_i32_1115 v1213
  v1214.toNat
def k0_dev112 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1118 : BitVec 32 := 1#32
  let v1221 : BitVec 32 := Scalar.addi v2 c1_i32_1118
  let c18_i32_1119 : BitVec 32 := 18#32
  let v1222 : BitVec 32 := Scalar.addi v1221 c18_i32_1119
  let c32_i32_1120 : BitVec 32 := 32#32
  let v1223 : BitVec 32 := Scalar.remsi v1222 c32_i32_1120
  let c1_i32_1123 : BitVec 32 := 1#32
  let v1224 : BitVec 32 := Scalar.muli v1223 c1_i32_1123
  let v1225 : BitVec 32 := Scalar.addi c0_i32_1124 v1224
  v1225.toNat
def k0_dev113 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1127 : BitVec 32 := 1#32
  let v1232 : BitVec 32 := Scalar.addi v2 c1_i32_1127
  let c19_i32_1128 : BitVec 32 := 19#32
  let v1233 : BitVec 32 := Scalar.addi v1232 c19_i32_1128
  let c32_i32_1129 : BitVec 32 := 32#32
  let v1234 : BitVec 32 := Scalar.remsi v1233 c32_i32_1129
  let c1_i32_1132 : BitVec 32 := 1#32
  let v1235 : BitVec 32 := Scalar.muli v1234 c1_i32_1132
  let v1236 : BitVec 32 := Scalar.addi c0_i32_1133 v1235
  v1236.toNat
def k0_dev114 (d0 : Dev nD) : Nat :=
  let c0_i32_1142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1136 : BitVec 32 := 1#32
  let v1243 : BitVec 32 := Scalar.addi v2 c1_i32_1136
  let c20_i32_1137 : BitVec 32 := 20#32
  let v1244 : BitVec 32 := Scalar.addi v1243 c20_i32_1137
  let c32_i32_1138 : BitVec 32 := 32#32
  let v1245 : BitVec 32 := Scalar.remsi v1244 c32_i32_1138
  let c1_i32_1141 : BitVec 32 := 1#32
  let v1246 : BitVec 32 := Scalar.muli v1245 c1_i32_1141
  let v1247 : BitVec 32 := Scalar.addi c0_i32_1142 v1246
  v1247.toNat
def k0_dev115 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1145 : BitVec 32 := 1#32
  let v1254 : BitVec 32 := Scalar.addi v2 c1_i32_1145
  let c21_i32_1146 : BitVec 32 := 21#32
  let v1255 : BitVec 32 := Scalar.addi v1254 c21_i32_1146
  let c32_i32_1147 : BitVec 32 := 32#32
  let v1256 : BitVec 32 := Scalar.remsi v1255 c32_i32_1147
  let c1_i32_1150 : BitVec 32 := 1#32
  let v1257 : BitVec 32 := Scalar.muli v1256 c1_i32_1150
  let v1258 : BitVec 32 := Scalar.addi c0_i32_1151 v1257
  v1258.toNat
def k0_dev116 (d0 : Dev nD) : Nat :=
  let c0_i32_1160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1154 : BitVec 32 := 1#32
  let v1265 : BitVec 32 := Scalar.addi v2 c1_i32_1154
  let c22_i32_1155 : BitVec 32 := 22#32
  let v1266 : BitVec 32 := Scalar.addi v1265 c22_i32_1155
  let c32_i32_1156 : BitVec 32 := 32#32
  let v1267 : BitVec 32 := Scalar.remsi v1266 c32_i32_1156
  let c1_i32_1159 : BitVec 32 := 1#32
  let v1268 : BitVec 32 := Scalar.muli v1267 c1_i32_1159
  let v1269 : BitVec 32 := Scalar.addi c0_i32_1160 v1268
  v1269.toNat
def k0_dev117 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1163 : BitVec 32 := 1#32
  let v1276 : BitVec 32 := Scalar.addi v2 c1_i32_1163
  let c23_i32_1164 : BitVec 32 := 23#32
  let v1277 : BitVec 32 := Scalar.addi v1276 c23_i32_1164
  let c32_i32_1165 : BitVec 32 := 32#32
  let v1278 : BitVec 32 := Scalar.remsi v1277 c32_i32_1165
  let c1_i32_1168 : BitVec 32 := 1#32
  let v1279 : BitVec 32 := Scalar.muli v1278 c1_i32_1168
  let v1280 : BitVec 32 := Scalar.addi c0_i32_1169 v1279
  v1280.toNat
def k0_dev118 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1172 : BitVec 32 := 1#32
  let v1287 : BitVec 32 := Scalar.addi v2 c1_i32_1172
  let c24_i32_1173 : BitVec 32 := 24#32
  let v1288 : BitVec 32 := Scalar.addi v1287 c24_i32_1173
  let c32_i32_1174 : BitVec 32 := 32#32
  let v1289 : BitVec 32 := Scalar.remsi v1288 c32_i32_1174
  let c1_i32_1177 : BitVec 32 := 1#32
  let v1290 : BitVec 32 := Scalar.muli v1289 c1_i32_1177
  let v1291 : BitVec 32 := Scalar.addi c0_i32_1178 v1290
  v1291.toNat
def k0_dev119 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1181 : BitVec 32 := 1#32
  let v1298 : BitVec 32 := Scalar.addi v2 c1_i32_1181
  let c25_i32_1182 : BitVec 32 := 25#32
  let v1299 : BitVec 32 := Scalar.addi v1298 c25_i32_1182
  let c32_i32_1183 : BitVec 32 := 32#32
  let v1300 : BitVec 32 := Scalar.remsi v1299 c32_i32_1183
  let c1_i32_1186 : BitVec 32 := 1#32
  let v1301 : BitVec 32 := Scalar.muli v1300 c1_i32_1186
  let v1302 : BitVec 32 := Scalar.addi c0_i32_1187 v1301
  v1302.toNat
def k0_dev120 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1190 : BitVec 32 := 1#32
  let v1309 : BitVec 32 := Scalar.addi v2 c1_i32_1190
  let c26_i32_1191 : BitVec 32 := 26#32
  let v1310 : BitVec 32 := Scalar.addi v1309 c26_i32_1191
  let c32_i32_1192 : BitVec 32 := 32#32
  let v1311 : BitVec 32 := Scalar.remsi v1310 c32_i32_1192
  let c1_i32_1195 : BitVec 32 := 1#32
  let v1312 : BitVec 32 := Scalar.muli v1311 c1_i32_1195
  let v1313 : BitVec 32 := Scalar.addi c0_i32_1196 v1312
  v1313.toNat
def k0_dev121 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1199 : BitVec 32 := 1#32
  let v1320 : BitVec 32 := Scalar.addi v2 c1_i32_1199
  let c27_i32_1200 : BitVec 32 := 27#32
  let v1321 : BitVec 32 := Scalar.addi v1320 c27_i32_1200
  let c32_i32_1201 : BitVec 32 := 32#32
  let v1322 : BitVec 32 := Scalar.remsi v1321 c32_i32_1201
  let c1_i32_1204 : BitVec 32 := 1#32
  let v1323 : BitVec 32 := Scalar.muli v1322 c1_i32_1204
  let v1324 : BitVec 32 := Scalar.addi c0_i32_1205 v1323
  v1324.toNat
def k0_dev122 (d0 : Dev nD) : Nat :=
  let c0_i32_1214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1208 : BitVec 32 := 1#32
  let v1331 : BitVec 32 := Scalar.addi v2 c1_i32_1208
  let c28_i32_1209 : BitVec 32 := 28#32
  let v1332 : BitVec 32 := Scalar.addi v1331 c28_i32_1209
  let c32_i32_1210 : BitVec 32 := 32#32
  let v1333 : BitVec 32 := Scalar.remsi v1332 c32_i32_1210
  let c1_i32_1213 : BitVec 32 := 1#32
  let v1334 : BitVec 32 := Scalar.muli v1333 c1_i32_1213
  let v1335 : BitVec 32 := Scalar.addi c0_i32_1214 v1334
  v1335.toNat
def k0_dev123 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1217 : BitVec 32 := 1#32
  let v1342 : BitVec 32 := Scalar.addi v2 c1_i32_1217
  let c29_i32_1218 : BitVec 32 := 29#32
  let v1343 : BitVec 32 := Scalar.addi v1342 c29_i32_1218
  let c32_i32_1219 : BitVec 32 := 32#32
  let v1344 : BitVec 32 := Scalar.remsi v1343 c32_i32_1219
  let c1_i32_1222 : BitVec 32 := 1#32
  let v1345 : BitVec 32 := Scalar.muli v1344 c1_i32_1222
  let v1346 : BitVec 32 := Scalar.addi c0_i32_1223 v1345
  v1346.toNat
def k0_dev124 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1226 : BitVec 32 := 1#32
  let v1353 : BitVec 32 := Scalar.addi v2 c1_i32_1226
  let c30_i32_1227 : BitVec 32 := 30#32
  let v1354 : BitVec 32 := Scalar.addi v1353 c30_i32_1227
  let c32_i32_1228 : BitVec 32 := 32#32
  let v1355 : BitVec 32 := Scalar.remsi v1354 c32_i32_1228
  let c1_i32_1231 : BitVec 32 := 1#32
  let v1356 : BitVec 32 := Scalar.muli v1355 c1_i32_1231
  let v1357 : BitVec 32 := Scalar.addi c0_i32_1232 v1356
  v1357.toNat
def k0_off65 (d0 : Dev nD) (c0_i32_1236 : BitVec 32) : Fin 2 → Nat :=
  let c8_i32_1239 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1235 : BitVec 32 := 1#32
  let v1364 : BitVec 32 := Scalar.addi v2 c1_i32_1235
  let v1365 : BitVec 32 := Scalar.addi v1364 c0_i32_1236
  let c32_i32_1237 : BitVec 32 := 32#32
  let v1366 : BitVec 32 := Scalar.remsi v1365 c32_i32_1237
  let v1368 : BitVec 32 := Scalar.muli c8_i32_1239 v1366
  let c0_i32_1244 : BitVec 32 := 0#32
  ![v1368.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x32768 : Shape := ⟨2, ![1024, 32768]⟩
abbrev S32768x1024 : Shape := ⟨2, ![32768, 1024]⟩
abbrev S1x256x32768 : Shape := ⟨3, ![1, 256, 32768]⟩
abbrev S1x256x256x128 : Shape := ⟨4, ![1, 256, 256, 128]⟩
abbrev S_ : Shape := ⟨0, ![]⟩
abbrev S1x256x256x1 : Shape := ⟨4, ![1, 256, 256, 1]⟩
abbrev S1x256x256x256 : Shape := ⟨4, ![1, 256, 256, 256]⟩
abbrev S1x256x256 : Shape := ⟨3, ![1, 256, 256]⟩
abbrev S1x256x128x256 : Shape := ⟨4, ![1, 256, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S1x256x32768, .f32⟩
  | .hbm, ⟨6, _⟩ => ⟨S1x256x256x128, .f32⟩
  | .hbm, ⟨7, _⟩ => ⟨S1x256x32768, .f32⟩
  | .hbm, ⟨8, _⟩ => ⟨S1x256x256x128, .f32⟩
  | .hbm, ⟨9, _⟩ => ⟨S1x256x32768, .f32⟩
  | .hbm, ⟨10, _⟩ => ⟨S1x256x256x128, .f32⟩
  | .hbm, ⟨11, _⟩ => ⟨S_, .f32⟩
  | .hbm, ⟨12, _⟩ => ⟨S1x256x256x128, .f32⟩
  | .hbm, ⟨13, _⟩ => ⟨S_, .f32⟩
  | .hbm, ⟨14, _⟩ => ⟨S1x256x256x1, .f32⟩
  | .hbm, ⟨15, _⟩ => ⟨S_, .f32⟩
  | .hbm, ⟨16, _⟩ => ⟨S1x256x256x1, .f32⟩
  | .hbm, ⟨17, _⟩ => ⟨S1x256x256x256, .f32⟩
  | .hbm, ⟨18, _⟩ => ⟨S_, .f32⟩
  | .hbm, ⟨19, _⟩ => ⟨S1x256x256x256, .f32⟩
  | .hbm, ⟨20, _⟩ => ⟨S1x256x256x256, .f32⟩
  | .hbm, ⟨21, _⟩ => ⟨S_, .f32⟩
  | .hbm, ⟨22, _⟩ => ⟨S1x256x256, .f32⟩
  | .hbm, ⟨23, _⟩ => ⟨S1x256x256x1, .f32⟩
  | .hbm, ⟨24, _⟩ => ⟨S1x256x256x1, .f32⟩
  | .hbm, ⟨25, _⟩ => ⟨S1x256x256x1, .f32⟩
  | .hbm, ⟨26, _⟩ => ⟨S1x256x256x1, .f32⟩
  | .hbm, ⟨27, _⟩ => ⟨S1x256x256x256, .f32⟩
  | .hbm, ⟨28, _⟩ => ⟨S1x256x256x256, .f32⟩
  | .hbm, ⟨29, _⟩ => ⟨S1x256x256x256, .f32⟩
  | .hbm, ⟨30, _⟩ => ⟨S1x256x256x1, .f32⟩
  | .hbm, ⟨31, _⟩ => ⟨S_, .f32⟩
  | .hbm, ⟨32, _⟩ => ⟨S1x256x256, .f32⟩
  | .hbm, ⟨33, _⟩ => ⟨S1x256x256x1, .f32⟩
  | .hbm, ⟨34, _⟩ => ⟨S1x256x256x1, .f32⟩
  | .hbm, ⟨35, _⟩ => ⟨S1x256x256x1, .f32⟩
  | .hbm, ⟨36, _⟩ => ⟨S1x256x256x128, .f32⟩
  | .hbm, ⟨37, _⟩ => ⟨S1x256x256x128, .f32⟩
  | .hbm, ⟨38, _⟩ => ⟨S1x256x128x256, .f32⟩
  | .hbm, ⟨39, _⟩ => ⟨S1x256x256x128, .f32⟩
  | .hbm, ⟨40, _⟩ => ⟨S1x256x256x128, .f32⟩
  | .hbm, ⟨41, _⟩ => ⟨S1x256x256x1, .f32⟩
  | .hbm, ⟨42, _⟩ => ⟨S1x256x256x128, .f32⟩
  | .hbm, ⟨43, _⟩ => ⟨S1x256x256x128, .f32⟩
  | .hbm, ⟨44, _⟩ => ⟨S1x256x32768, .f32⟩
  | .hbm, ⟨45, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Cells.lean ====
/-
The protocol of the kernel over its 32 devices: the semaphore cells, the pieces of memory that travel, and the
schedule saying what each semaphore's credit hands over.

Every device runs the same body.  Device `c` addresses 31 peers, `peer c j = c + 1 + j (mod 32)` for `j < 31`; seen
from the peer, device `c` is its peer number `rev j = 30 - j`.  There are five kinds of semaphore cell per device:
the barrier of the runtime, and four families of 31 DMA cells (the sends and the receives of the reduce-scatter, the
sends and the receives of the all-gather).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueIdxCore
public import Idealize.ShloMosaic.Lib.Tactic

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource of the rounds: cells of the mesh, 31 duty names (only a barrier uses more than one). -/
abbrev UK : Type := URounds (GSem nD τ sig) (Fin 31)
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

variable (m : (ℓ : Loc nD τ sig) → Buf (Elt F) ℓ) (ρ : Dev nD → PrngReg)

/-- The memory at launch: any contents, every semaphore counter at zero, any generator registers. -/
def s₀ : MemSt nD τ sig (Elt F) := ⟨m, fun _ => 0, ρ⟩

/-! ## Peers -/

/-- The device `c` addresses in its transfer number `j`. -/
def peer (c : Dev nD) (j : Fin 31) : Dev nD := ⟨(c.val + 1 + j.val) % 32, Nat.mod_lt _ (by decide)⟩
/-- The number under which the peer addresses `c` back. -/
def rev (j : Fin 31) : Fin 31 := ⟨30 - j.val, by omega⟩

theorem rev_rev (j : Fin 31) : rev (rev j) = j := Fin.ext (by simp only [rev]; omega)
theorem peer_val (c : Dev nD) (j : Fin 31) : (peer c j).val = (c.val + 1 + j.val) % 32 := rfl
theorem rev_val (j : Fin 31) : (rev j).val = 30 - j.val := rfl

theorem peer_rev (c : Dev nD) (j : Fin 31) : peer (peer c j) (rev j) = c := by
  have hc : c.val < 32 := c.isLt
  have hj := j.isLt
  refine Fin.ext ?_
  rw [peer_val, peer_val, rev_val]; omega
theorem peer_rev' (c : Dev nD) (j : Fin 31) : peer (peer c (rev j)) j = c := by
  have h := peer_rev c (rev j); rwa [rev_rev] at h

theorem peer_inj (c : Dev nD) : Function.Injective (peer c) := by
  intro j j' h
  have hc : c.val < 32 := c.isLt
  have hj := j.isLt; have hj' := j'.isLt
  have h' := congrArg Fin.val h
  rw [peer_val, peer_val] at h'
  exact Fin.ext (by omega)
theorem peer_ne (c : Dev nD) (j : Fin 31) : peer c j ≠ c := by
  intro h
  have hc : c.val < 32 := c.isLt
  have hj := j.isLt
  have h' := congrArg Fin.val h
  rw [peer_val] at h'; omega

/-- All pairs (device, transfer number), seen from the other end. -/
def swap : Dev nD × Fin 31 ≃ Dev nD × Fin 31 where
  toFun x := (peer x.1 x.2, rev x.2)
  invFun x := (peer x.1 x.2, rev x.2)
  left_inv x := by
    obtain ⟨c, j⟩ := x
    exact Prod.ext (peer_rev c j) (rev_rev j)
  right_inv x := by
    obtain ⟨c, j⟩ := x
    exact Prod.ext (peer_rev c j) (rev_rev j)

/-! ## The memory that travels -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x1024 .f32 := Memref.whole cc0_stg3_0
abbrev wvM : Memref sig .tc .vmem S1024x1024 .f32 := Memref.whole cc0_stg4_0
abbrev oM : Memref sig .tc .vmem S1x256x1024 .f32 := Memref.whole cc0_stg5_0
abbrev accM : Memref sig .tc .vmem S256x1024 .bf16 := Memref.whole cc0_scratch0
abbrev agM : Memref sig .tc .vmem S256x1024 .bf16 := Memref.whole cc0_scratch1
abbrev rsM : Memref sig .tc .vmem S31x8x1024 .bf16 := Memref.whole cc0_scratch2

theorem chunk_inb (d : Dev nD) : ∀ a, (![8 * d.val, 0] : Fin 2 → ℕ) a + S8x1024.size a ≤ S256x1024.size a := by
  revert d; decide +kernel
theorem slot_inb (s : Fin 31) : ∀ a, (![s.val, 0, 0] : Fin 3 → ℕ) a + S1x8x1024.size a ≤ S31x8x1024.size a := by
  revert s; decide +kernel

/-- The eight rows belonging to device `d`. -/
abbrev chunkR (d : Dev nD) : Rect S256x1024 := Rect.unit (s := S256x1024) ![8 * d.val, 0] S8x1024.size (chunk_inb d)
abbrev slotR (s : Fin 31) : Rect S31x8x1024 := Rect.unit (s := S31x8x1024) ![s.val, 0, 0] S1x8x1024.size (slot_inb s)
abbrev accV (d : Dev nD) : Memref sig .tc .vmem S8x1024 .bf16 := accM.slice (chunkR d) (fun _ => rfl)
abbrev agV (d : Dev nD) : Memref sig .tc .vmem S8x1024 .bf16 := agM.slice (chunkR d) (fun _ => rfl)
abbrev slotV (s : Fin 31) : Memref sig .tc .vmem S8x1024 .bf16 :=
  (rsM.slice (slotR s) (fun _ => rfl)).squeeze S8x1024 squeezes_S1x8x1024_S8x1024

/-- Device `c` holds the eight rows of device `d` of its partial product, at contents `f` of the whole buffer. -/
def accPts (c d : Dev nD) (f : Buf (Elt F) ((c : Thread nD τ).loc cc0_scratch0)) : sProp 𝕄 :=
  (accV d).view.loc (c : Thread nD τ) ↦[(accV d).view.set]{fullShare} f
/-- Device `c` holds a share `q` of the eight rows of device `d` of its gathered result. -/
def agPts (c d : Dev nD) (q : PosShare TreeShare) (f : Buf (Elt F) ((c : Thread nD τ).loc cc0_scratch1)) : sProp 𝕄 :=
  (agV d).view.loc (c : Thread nD τ) ↦[(agV d).view.set]{q} f
/-- Device `c` holds its landing slot number `s`. -/
def slotPts (c : Dev nD) (s : Fin 31) (f : Buf (Elt F) ((c : Thread nD τ).loc cc0_scratch2)) : sProp 𝕄 :=
  (slotV s).view.loc (c : Thread nD τ) ↦[(slotV s).view.set]{fullShare} f

instance accPts_storable (c d : Dev nD) (f) : BI.Storable (upEmb : UEmb _ 𝕄) (accPts (F := F) c d f) := by
  unfold accPts; infer_instance
instance agPts_storable (c d : Dev nD) (q f) : BI.Storable (upEmb : UEmb _ 𝕄) (agPts (F := F) c d q f) := by
  unfold agPts; infer_instance
instance slotPts_storable (c : Dev nD) (s f) : BI.Storable (upEmb : UEmb _ 𝕄) (slotPts (F := F) c s f) := by
  unfold slotPts; infer_instance

/-! ## The values -/

/-- What the six staging buffers of device `c` hold when the body starts: `x` and the device's blocks of the weights. -/
def xS (c : Dev nD) : Vec F S1x256x1024 .f32 := (win0_0.blk (0 : Fin 1)).view.read (Elt F) (m ((c : Thread nD τ).loc main_arg0))
def wqS (c : Dev nD) : Vec F S1024x1024 .f32 := (win0_1.blk (0 : Fin 1)).view.read (Elt F) (m ((c : Thread nD τ).loc main_arg1))
def woS (c : Dev nD) : Vec F S1024x1024 .f32 := (win0_2.blk (0 : Fin 1)).view.read (Elt F) (m ((c : Thread nD τ).loc main_arg4))
def wkS (c : Dev nD) : Vec F S1024x1024 .f32 := (win0_3.blk (0 : Fin 1)).view.read (Elt F) (m ((c : Thread nD τ).loc main_arg2))
def wvS (c : Dev nD) : Vec F S1024x1024 .f32 := (win0_4.blk (0 : Fin 1)).view.read (Elt F) (m ((c : Thread nD τ).loc main_arg3))

/-- The rectangles of the two halves of the rows. -/
abbrev xRlo : Rect S1x256x1024 := Rect.unit (s := S1x256x1024) ![0, 0, 0] S1x128x1024.size inb_S1x256x1024_S1x128x1024_0_0_0
abbrev xRhi : Rect S1x256x1024 := Rect.unit (s := S1x256x1024) ![0, 128, 0] S1x128x1024.size inb_S1x256x1024_S1x128x1024_0_128_0
abbrev accRlo : Rect S256x1024 := Rect.unit (s := S256x1024) ![0, 0] S128x1024.size inb_S256x1024_S128x1024_0_0
abbrev accRhi : Rect S256x1024 := Rect.unit (s := S256x1024) ![128, 0] S128x1024.size inb_S256x1024_S128x1024_128_0

/-- The rows 0 … 127 of the partial product, from `x`, its lower rows and the device's weights. -/
def lowOf (x : Vec F S1x256x1024 .f32) (xl : Vec F S1x128x1024 .f32) (wq wo wk wv : Vec F S1024x1024 .f32) : Vec F S128x1024 .bf16 :=
  let k := k0_pay2 x wk
  let v := k0_pay3 x wv
  let l := k0_pay4 xl
  let q := k0_pay5 l wq
  k0_pay20 (k0_pay6 k v l wq) (k0_pay7 k v l wq) (k0_pay11 (k0_pay8 v) (k0_pay9 k l wq) (k0_pay10 (F := F))) (k0_pay12 k v q) (k0_pay13 k v q)
    (k0_pay15 k v (k0_pay14 q)) (k0_pay16 k v q) (k0_pay17 v) (k0_pay18 k q) (k0_pay19 k q) wo

/-- The rows 128 … 255 likewise. -/
def highOf (x : Vec F S1x256x1024 .f32) (xh : Vec F S1x128x1024 .f32) (wq wo wk wv : Vec F S1024x1024 .f32) : Vec F S128x1024 .bf16 :=
  let k := k0_pay2 x wk
  let v := k0_pay3 x wv
  let q := k0_pay21 xh wq
  k0_pay36 (k0_pay22 k v xh wq) (k0_pay26 (k0_pay24 k v xh wq) (k0_pay25 k xh wq)) (k0_pay27 k v q) (k0_pay28 k v q)
    (k0_pay31 (k0_pay29 v) (k0_pay30 k q)) (k0_pay32 k v q) (k0_pay33 k v q) (k0_pay34 v) (k0_pay35 k q) wo

/-- The two halves on device `c`. -/
def lowP (c : Dev nD) : Vec F S128x1024 .bf16 :=
  lowOf (xS m c) (xM.view.readAt (Elt F) xRlo.toLoadRect (xS m c)) (wqS m c) (woS m c) (wkS m c) (wvS m c)
def highP (c : Dev nD) : Vec F S128x1024 .bf16 :=
  highOf (xS m c) (xM.view.readAt (Elt F) xRhi.toLoadRect (xS m c)) (wqS m c) (woS m c) (wkS m c) (wvS m c)

/-- Device `c`'s partial product. -/
def accAll (c : Dev nD) : Vec F S256x1024 .bf16 := fun i =>
  if h : (i 0).val < 128 then lowP m c (ix2 ⟨(i 0).val, h⟩ (i 1))
  else highP m c (ix2 ⟨(i 0).val - 128, by have : (i 0).val < 256 := (i 0).isLt; omega⟩ (i 1))

/-- What lands in device `d`'s slots: slot `s` receives the rows of `d` of the partial product of its peer `s`. -/
def landed (d : Dev nD) : Vec F S31x8x1024 .bf16 := fun i =>
  accAll m (peer d (i 0)) (ix2 ⟨8 * d.val + (i 1).val, by have h1 : (i 1).val < 8 := (i 1).isLt; have hd : d.val < 32 := d.isLt; omega⟩ (i 2))

/-- The reduced rows of device `d`. -/
def redC (d : Dev nD) : Vec F S8x1024 .bf16 := k0_pay37 (accM.view.readAt (Elt F) (chunkR d).toLoadRect (accAll m d)) (landed m d)

/-- The gathered result: row `i` is row `i % 8` of the reduced rows of device `i / 8`. -/
def gath : Vec F S256x1024 .bf16 := fun i =>
  redC m ⟨(i 0).val / 8, by have : (i 0).val < 256 := (i 0).isLt; show _ < 32; omega⟩ (ix2 ⟨(i 0).val % 8, Nat.mod_lt _ (by decide)⟩ (i 1))

/-- The kernel's result, the same on every device. -/
def outC : Vec F S1x256x1024 .f32 := k0_pay1 (gath m)

/-! ## The cells -/

/-- The barrier semaphore of the runtime. -/
abbrev barS : Sem sig := (SemArray.scalar (sig.barrier 0 rfl) : Sems sig S_).sem
/-- DMA semaphore number `j` of family `k` (0: reduce-scatter sends, 1: its receives, 2: all-gather sends, 3: its receives). -/
def dsem (k : Fin 4) (j : Fin 31) : DmaSem sig := ⟨6 + 31 * k.val + j.val, by have := k.isLt; have := j.isLt; show _ < 130; omega⟩

abbrev barCell (c : Dev nD) : GSem nD τ sig := ((c : Thread nD τ), .reg barS)
abbrev cell (k : Fin 4) (c : Dev nD) (j : Fin 31) : GSem nD τ sig := ((c : Thread nD τ), .dma (dsem k j))

theorem dsem_val (k : Fin 4) (j : Fin 31) : (dsem k j).val = 6 + 31 * k.val + j.val := rfl
/-- The family and the number of a DMA semaphore. -/
def famOf (q : DmaSem sig) : Fin 4 := ⟨(q.val - 6) / 31 % 4, Nat.mod_lt _ (by decide)⟩
def numOf (q : DmaSem sig) : Fin 31 := ⟨(q.val - 6) % 31, Nat.mod_lt _ (by decide)⟩
theorem famOf_dsem (k : Fin 4) (j : Fin 31) : famOf (dsem k j) = k := by
  have := k.isLt; have := j.isLt
  refine Fin.ext ?_; simp only [famOf, dsem_val]; omega
theorem numOf_dsem (k : Fin 4) (j : Fin 31) : numOf (dsem k j) = j := by
  have := k.isLt; have := j.isLt
  refine Fin.ext ?_; simp only [numOf, dsem_val]; omega

/-- The kernel's own scoped semaphores, and all of its cells (`none` the barrier). -/
abbrev osem (x : Fin 4 × Fin 31) : SemLoc sig := .dma (dsem x.1 x.2)
abbrev csem : Option (Fin 4 × Fin 31) → SemLoc sig := fun | none => .reg barS | some x => osem x
abbrev kcell (ck : Dev nD × Option (Fin 4 × Fin 31)) : GSem nD τ sig := ((ck.1 : Thread nD τ), csem ck.2)

/-- The credit of one transfer of eight rows. -/
abbrev N : ℕ := (accV 0).view.dmaCredit
theorem N_pos : 0 < N := View.dmaCredit_pos _ (by decide)

/-! ## The schedule -/

/-- The share of its own reduced rows device `c` lends to its all-gather send number `j`. -/
abbrev lend (j : Fin 31) : PosShare TreeShare := Transfers.shareTok fullShare 31 j

/-- What the signal numbered `j` hands device `d`: from its sender (`d`'s peer `rev j`) the slot and the rows of `d`
    which `d`'s transfers to that sender will write. -/
def barPay (d : Dev nD) (j : Fin 31) : sProp 𝕄 :=
  iprop((∃ f, slotPts (peer d (rev j)) j f) ∗ (∃ f, agPts (peer d (rev j)) d fullShare f))

/-- What the credit of a DMA cell hands over: the sends give their source back, the receives what has landed. -/
def dmaPay (k : Fin 4) (c : Dev nD) (j : Fin 31) : sProp 𝕄 :=
  if k = 0 then accPts c (peer c j) (accAll m c)
  else if k = 1 then slotPts c j (landed m c)
  else if k = 2 then agPts c c (lend j) (gath m)
  else agPts c (peer c j) fullShare (gath m)

instance barPay_storable (d : Dev nD) (j : Fin 31) : BI.Storable (upEmb : UEmb _ 𝕄) (barPay (F := F) d j) := by
  unfold barPay; infer_instance
instance dmaPay_storable (k : Fin 4) (c : Dev nD) (j : Fin 31) : BI.Storable (upEmb : UEmb _ 𝕄) (dmaPay (F := F) m k c j) := by
  unfold dmaPay; (repeat' split) <;> infer_instance

/-- One round: a barrier has 31 duties of one unit, a DMA cell the duty `0` of a transfer's credit. -/
def sched : Rounds.Schedule (GSem nD τ sig) (Fin 31) 𝕄 where
  duties g r := if r = 0 ∧ g.1.2 = .tc then (match g.2 with
    | .reg s => if s = barS then Finset.univ else ∅
    | .dma q => if 6 ≤ q.val then {0} else ∅) else ∅
  unitless _ := False
  amount g _ _ := match g.2 with | .reg _ => 1 | .dma _ => N
  payload g _ d := match g.2 with | .reg _ => barPay g.1.1 d | .dma q => dmaPay m (famOf q) g.1.1 (numOf q)
  amount_pos g _ _ _ := by
    rcases g with ⟨t, s | q⟩
    · exact Nat.one_pos
    · exact N_pos

instance sched_payload_storable (g : GSem nD τ sig) (r : ℕ) (d : Fin 31) :
    BI.Storable (upEmb : UEmb _ 𝕄) ((sched (F := F) m).payload g r d) := by
  rcases g with ⟨t, s | q⟩
  · exact barPay_storable _ _
  · exact dmaPay_storable m _ _ _

section Sched
variable (c : Dev nD) (k : Fin 4) (j : Fin 31)

theorem duties_bar : (sched (F := F) m).duties (barCell c) 0 = Finset.univ := by
  dsimp only [sched]; rw [if_pos ⟨rfl, rfl⟩]; exact if_pos rfl
theorem duties_dma : (sched (F := F) m).duties (cell k c j) 0 = {0} := by
  dsimp only [sched]; rw [if_pos ⟨rfl, rfl⟩]; exact if_pos (by rw [dsem_val]; omega)
theorem duties_later (g : GSem nD τ sig) : ∀ r, 1 ≤ r → (sched (F := F) m).duties g r = ∅ :=
  fun r hr => by dsimp only [sched]; rw [if_neg fun h => by omega]
theorem amount_bar (d : Fin 31) : (sched (F := F) m).amount (barCell c) 0 d = 1 := rfl
theorem amount_dma (d : Fin 31) : (sched (F := F) m).amount (cell k c j) 0 d = N := rfl
theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_dma : (sched (F := F) m).expect (cell k c j) 0 = N := by
  unfold Schedule.expect Schedule.amountOf; rw [duties_dma, Finset.sum_singleton, amount_dma]
theorem payload_bar (d : Fin 31) : (sched (F := F) m).payload (barCell c) 0 d = barPay c d := rfl
theorem payload_dma (d : Fin 31) : (sched (F := F) m).payload (cell k c j) 0 d = dmaPay m k c j := by
  dsimp only [sched]; rw [famOf_dsem, numOf_dsem]
theorem rest_bar : bigSep ((sched (F := F) m).duties (barCell c) 0 \ ∅) (fun d => (sched (F := F) m).payload (barCell c) 0 d)
    = bigSep Finset.univ fun j => barPay c j := by
  rw [Finset.sdiff_empty, duties_bar]; exact bigSep_congr fun d _ => payload_bar m c d
theorem rest_dma : bigSep ((sched (F := F) m).duties (cell k c j) 0 \ ∅) (fun d => (sched (F := F) m).payload (cell k c j) 0 d)
    = dmaPay m k c j := by
  rw [Finset.sdiff_empty, duties_dma, bigSep_singleton, payload_dma]

end Sched

end Cert.Mha

end
-- ==== Proof.Steps.lean ====
/-
The steps of the body, one lemma per kind of operation, each moving a family of 31 numbered operations on by one.

A family with the operations below `i` behind it holds what the remaining ones need (`todo`) and what the finished
ones have left (`done`).  Every lemma is stated over a program's head operation and an arbitrary rest of the state, so
that the body's proof is a chain of them.
-/
module

public import proofs.«01_k».proof.Proof.Cells

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Numbered families -/

/-- The numbers from `i` on, respectively below `i`, of the operations a predicate selects. -/
def todo (b : Fin 31 → Bool) (i : ℕ) : Finset (Fin 31) := Finset.univ.filter fun j => b j = true ∧ i ≤ j.val
def done (b : Fin 31 → Bool) (i : ℕ) : Finset (Fin 31) := Finset.univ.filter fun j => b j = true ∧ j.val < i
/-- Every number. -/
abbrev every (_ : Fin 31) : Bool := true

theorem mem_todo {b : Fin 31 → Bool} {i : ℕ} {j : Fin 31} : j ∈ todo b i ↔ b j = true ∧ i ≤ j.val := by
  unfold todo; rw [Finset.mem_filter]; exact and_iff_right (Finset.mem_univ _)
theorem mem_done {b : Fin 31 → Bool} {i : ℕ} {j : Fin 31} : j ∈ done b i ↔ b j = true ∧ j.val < i := by
  unfold done; rw [Finset.mem_filter]; exact and_iff_right (Finset.mem_univ _)

theorem todo_step {b : Fin 31 → Bool} {i : ℕ} (hi : i < 31) (hb : b ⟨i, hi⟩ = true) :
    todo b i = insert ⟨i, hi⟩ (todo b (i + 1)) := by
  ext j
  rw [Finset.mem_insert, mem_todo, mem_todo]
  constructor
  · rintro ⟨h1, h2⟩
    rcases Nat.eq_or_lt_of_le h2 with h | h
    · exact .inl (Fin.ext h.symm)
    · exact .inr ⟨h1, h⟩
  · rintro (rfl | ⟨h1, h2⟩)
    · exact ⟨hb, le_refl _⟩
    · exact ⟨h1, by omega⟩
theorem todo_skip {b : Fin 31 → Bool} {i : ℕ} (hi : i < 31) (hb : b ⟨i, hi⟩ = false) : todo b i = todo b (i + 1) := by
  ext j
  rw [mem_todo, mem_todo]
  constructor
  · rintro ⟨h1, h2⟩
    refine ⟨h1, Nat.lt_of_le_of_ne h2 fun h => ?_⟩
    rw [show j = ⟨i, hi⟩ from Fin.ext h.symm, hb] at h1
    exact Bool.false_ne_true h1
  · rintro ⟨h1, h2⟩; exact ⟨h1, by omega⟩
theorem not_mem_todo_succ {b : Fin 31 → Bool} {i : ℕ} (hi : i < 31) : (⟨i, hi⟩ : Fin 31) ∉ todo b (i + 1) := by
  rw [mem_todo]; rintro ⟨-, h⟩; exact absurd h (by simp)
theorem done_step {b : Fin 31 → Bool} {i : ℕ} (hi : i < 31) (hb : b ⟨i, hi⟩ = true) :
    done b (i + 1) = insert ⟨i, hi⟩ (done b i) := by
  ext j
  rw [Finset.mem_insert, mem_done, mem_done]
  constructor
  · rintro ⟨h1, h2⟩
    rcases Nat.eq_or_lt_of_le (Nat.lt_succ_iff.mp h2) with h | h
    · exact .inl (Fin.ext h)
    · exact .inr ⟨h1, h⟩
  · rintro (rfl | ⟨h1, h2⟩)
    · exact ⟨hb, Nat.lt_succ_self _⟩
    · exact ⟨h1, by omega⟩
theorem done_skip {b : Fin 31 → Bool} {i : ℕ} (hi : i < 31) (hb : b ⟨i, hi⟩ = false) : done b (i + 1) = done b i := by
  ext j
  rw [mem_done, mem_done]
  constructor
  · rintro ⟨h1, h2⟩
    refine ⟨h1, Nat.lt_of_le_of_ne (Nat.lt_succ_iff.mp h2) fun h => ?_⟩
    rw [show j = ⟨i, hi⟩ from Fin.ext h, hb] at h1
    exact Bool.false_ne_true h1
  · rintro ⟨h1, h2⟩; exact ⟨h1, by omega⟩
theorem not_mem_done {b : Fin 31 → Bool} {i : ℕ} (hi : i < 31) : (⟨i, hi⟩ : Fin 31) ∉ done b i := by
  rw [mem_done]; rintro ⟨-, h⟩; exact absurd h (by simp)
theorem todo_every_zero : todo every 0 = Finset.univ :=
  Finset.ext fun j => by rw [mem_todo]; exact iff_of_true ⟨rfl, Nat.zero_le _⟩ (Finset.mem_univ _)
theorem todo_end {b : Fin 31 → Bool} : todo b 31 = ∅ :=
  Finset.ext fun j => by rw [mem_todo]; exact iff_of_false (fun h => absurd h.2 (by have := j.isLt; omega)) (Finset.notMem_empty _)
theorem done_zero {b : Fin 31 → Bool} : done b 0 = ∅ :=
  Finset.ext fun j => by rw [mem_done]; exact iff_of_false (fun h => absurd h.2 (by omega)) (Finset.notMem_empty _)
theorem done_every_end : done every 31 = Finset.univ :=
  Finset.ext fun j => by rw [mem_done]; exact iff_of_true ⟨rfl, j.isLt⟩ (Finset.mem_univ _)

theorem bigSep_todo {b : Fin 31 → Bool} {i : ℕ} (hi : i < 31) (hb : b ⟨i, hi⟩ = true) (Φ : Fin 31 → sProp 𝕄) :
    bigSep (todo b i) Φ = iprop(Φ ⟨i, hi⟩ ∗ bigSep (todo b (i + 1)) Φ) := by
  rw [todo_step hi hb]; exact bigSep_insert (not_mem_todo_succ hi)
theorem bigSep_done {b : Fin 31 → Bool} {i : ℕ} (hi : i < 31) (hb : b ⟨i, hi⟩ = true) (Φ : Fin 31 → sProp 𝕄) :
    bigSep (done b (i + 1)) Φ = iprop(Φ ⟨i, hi⟩ ∗ bigSep (done b i) Φ) := by
  rw [done_step hi hb]; exact bigSep_insert (not_mem_done hi)

/-! ## What a device owes, and the levels -/

/-- The units a device owes a peer: its signal, the credit of its reduce-scatter transfer, that of its all-gather transfer. -/
abbrev barT (c : Dev nD) (j : Fin 31) : CellTallies nD τ sig Unit := tallyAt (barCell (peer c j)) () 1
abbrev rsT (c : Dev nD) (j : Fin 31) : CellTallies nD τ sig Unit := tallyAt (cell 1 (peer c j) (rev j)) () N
abbrev agT (c : Dev nD) (j : Fin 31) : CellTallies nD τ sig Unit := tallyAt (cell 3 (peer c j) (rev j)) () N

/-- What a family still owes. -/
def dueOf (T : Fin 31 → CellTallies nD τ sig Unit) (b : Fin 31 → Bool) (i : ℕ) : CellTallies nD τ sig Unit := ∑ j ∈ todo b i, T j

theorem dueOf_step {T : Fin 31 → CellTallies nD τ sig Unit} {b : Fin 31 → Bool} {i : ℕ} (hi : i < 31) (hb : b ⟨i, hi⟩ = true) :
    dueOf T b i = dueOf T b (i + 1) + T ⟨i, hi⟩ := by
  unfold dueOf; rw [todo_step hi hb, Finset.sum_insert (not_mem_todo_succ hi), add_comm]
theorem dueOf_skip {T : Fin 31 → CellTallies nD τ sig Unit} {b : Fin 31 → Bool} {i : ℕ} (hi : i < 31) (hb : b ⟨i, hi⟩ = false) :
    dueOf T b i = dueOf T b (i + 1) := by
  unfold dueOf; rw [todo_skip hi hb]
theorem dueOf_end {T : Fin 31 → CellTallies nD τ sig Unit} {b : Fin 31 → Bool} : dueOf T b 31 = 0 := by
  unfold dueOf; rw [todo_end, Finset.sum_empty]

def L (g : GSem nD τ sig) : Finset Unit := if g.1.2 = .tc then {()} else ∅
/-- Barrier cells at 1, the receives of the reduce-scatter at 2, those of the all-gather at 3, everything else at 0. -/
def lv (g : GSem nD τ sig) (_ : Unit) : ℕ := match g.2 with
  | .reg _ => 1
  | .dma q => if famOf q = 1 then 2 else if famOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Fin 4) (c : Dev nD) (j : Fin 31) : lv (cell k c j) () = if k = 1 then 2 else if k = 3 then 3 else 0 := by
  dsimp only [lv]; rw [famOf_dsem]

/-- Everything owed sits on a TensorCore's cell above level `n`. -/
def Above (n : ℕ) (O : CellTallies nD τ sig Unit) : Prop := ∀ g u, 0 < O g u → g.1.2 = .tc ∧ n < lv g u

theorem above_zero (n : ℕ) : Above n 0 := fun g u h => absurd h (by simp)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_tally {n : ℕ} {g : GSem nD τ sig} {a : ℕ} (htc : g.1.2 = .tc) (hn : n < lv g ()) : Above n (tallyAt g () a) := fun g' u hg => by
  rw [tallyAt_apply] at hg
  by_cases h : g' = g ∧ u = ()
  · obtain ⟨rfl, rfl⟩ := h; exact ⟨htc, hn⟩
  · rw [if_neg h] at hg; exact absurd hg (Nat.lt_irrefl 0)
theorem above_due {n : ℕ} {T : Fin 31 → CellTallies nD τ sig Unit} (h : ∀ j, Above n (T j)) (b : Fin 31 → Bool) (i : ℕ) :
    Above n (dueOf T b i) := by
  unfold dueOf
  exact Finset.sum_induction _ (Above n) (fun _ _ => above_add) (above_zero n) fun j _ => h j
theorem above_bar (c : Dev nD) (j : Fin 31) : Above 0 (barT c j) := above_tally rfl Nat.zero_lt_one
theorem above_rs (c : Dev nD) (j : Fin 31) : Above 1 (rsT c j) := above_tally rfl (by rw [lv_cell]; decide)
theorem above_ag (c : Dev nD) (j : Fin 31) : Above 2 (agT c j) := above_tally rfl (by rw [lv_cell]; decide)
theorem Above.mono {n n' : ℕ} {O : CellTallies nD τ sig Unit} (h : Above n O) (hn : n' ≤ n) : Above n' O :=
  fun g u hg => ⟨(h g u hg).1, lt_of_le_of_lt hn (h g u hg).2⟩

/-- A device may wait on a cell of its own below everything it owes. -/
theorem mayWait_of_above (c : Dev nD) (sm : SemLoc sig) {n : ℕ} {O : CellTallies nD τ sig Unit}
    (hsm : lv ((c : Thread nD τ), sm) () ≤ n) (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton.mpr rfl)
    (fun p hp => by rw [Finset.mem_singleton.mp hp]; exact hsm)
    (fun g u hg => (hO g u hg).2)

/-! ## The persistent facts -/

/-- Every cell's invariant under the names `K`, every cell at round 0, the levels. -/
def records (K : Dev nD × Option (Fin 4 × Fin 31) → ℕ) : sProp 𝕄 :=
  iprop((bigSep Finset.univ fun ck => cellInv ER (sched m) (K ck) (kcell ck))
    ∗ (bigSep Finset.univ fun ck => reached ER (kcell ck) 0) ∗ levAts L lv)

instance records_persistent (K : Dev nD × Option (Fin 4 × Fin 31) → ℕ) : BI.Persistent (records (F := F) m K) := by
  unfold records; infer_instance

variable (K : Dev nD × Option (Fin 4 × Fin 31) → ℕ)

/-- One of the facts held for all of a finite type. -/
theorem one_of {I : Type} [Fintype I] [DecidableEq I] (Φ : I → sProp 𝕄) (i : I) : bigSep Finset.univ Φ ⊢ Φ i :=
  show _ ⊢ _ from BI.bigSep_elim (Finset.mem_univ i)

theorem records_inv (ck : Dev nD × Option (Fin 4 × Fin 31)) : records m K ⊢ cellInv ER (sched m) (K ck) (kcell ck) := by
  unfold records
  iintro ⟨H, -, -⟩
  iapply (one_of (fun ck => (cellInv ER (sched m) (K ck) (kcell ck) : sProp 𝕄)) ck); iexact H
theorem records_reached (ck : Dev nD × Option (Fin 4 × Fin 31)) : records m K ⊢ reached ER (kcell ck) 0 := by
  unfold records
  iintro ⟨-, H, -⟩
  iapply (one_of (fun ck => (reached ER (kcell ck) 0 : sProp 𝕄)) ck); iexact H
theorem records_levels : records m K ⊢ levAts L lv := by
  unfold records
  iintro ⟨-, -, H⟩; iexact H

/-- What a device owes, at some recorded waits. -/
def due (c : Dev nD) (O : CellTallies nD τ sig Unit) : sProp 𝕄 := iprop(∃ W, owes (c : Thread nD τ) O W)

variable (c : Dev nD) {α : Type}

/-- The programs of a TensorCore, and their weakest precondition on device `c`. -/
abbrev CoreProg (F : FTy → Type) (α : Type) : Type 1 := Prog (TpuEff nD τ sig (Elt F) Λ₀ .tc) α
abbrev wpc {α : Type} (p : CoreProg F α) (Q : α → sProp 𝕄) : sProp 𝕄 :=
  wp frame (wpE (defs₀ (F := F)) 𝒱₀ (c : Thread nD τ) none) Set.univ p Q

/-! ## The signals -/

/-- Signal `j` hands the peer this device's slot `j` and its rows of the gathered result belonging to the peer. -/
def sigRes (j : Fin 31) : sProp 𝕄 :=
  iprop(dutyTok ER (barCell (peer c j)) 0 j ∗ (∃ f, slotPts c j f) ∗ (∃ f, agPts c (peer c j) fullShare f))
def sigSt (i : ℕ) (O : CellTallies nD τ sig Unit) : sProp 𝕄 :=
  iprop(bigSep (todo every i) (sigRes (F := F) c) ∗ due c (dueOf (barT c) every i + O))

theorem pay_sig (j : Fin 31) : (barPay (peer c j) j : sProp 𝕄) = iprop((∃ f, slotPts c j f) ∗ (∃ f, agPts c (peer c j) fullShare f)) := by
  unfold barPay; rw [peer_rev]

theorem route_peer (j : Fin 31) : τ.routes (c : Thread nD τ) (peer c j : Thread nD τ) = true := by routes

theorem step_sig {Q : α → sProp 𝕄} {R : sProp 𝕄} (i : ℕ) (hi : i < 31) {dev : Dev nD} {sem : Sem sig} {O : CellTallies nD τ sig Unit} {k : PUnit → CoreProg F α}
    {n : ℤ} (hdev : dev = peer c ⟨i, hi⟩) (hsem : sem = barS) (hn : n = (1 : ℕ))
    (h : iprop(records m K ∗ sigSt c (i + 1) O ∗ R) ⊢ wpc c (k ⟨⟩) Q) :
    iprop(records m K ∗ sigSt c i O ∗ R) ⊢ wpc c (.op (.semSignal (dev, .tc) sem n) k) Q := by
  subst hdev hsem hn
  have hI := records_inv m K (peer c ⟨i, hi⟩, none)
  have hr := records_reached m K (peer c ⟨i, hi⟩, none)
  unfold sigSt due at h ⊢
  rw [bigSep_todo hi rfl, dueOf_step hi rfl]
  iintro ⟨#Hrec, ⟨⟨Hres, Hres'⟩, ⟨%W, HO⟩⟩, HR⟩
  unfold sigRes
  icases Hres with ⟨Htok, Hpay⟩
  iapply (Rounds.wp_signal 𝒱₀ ER (sched m) (c : Thread nD τ) none (dst := (peer c ⟨i, hi⟩ : Thread nD τ)) (κ := K (peer c ⟨i, hi⟩, none))
      (r := 0) (d := ⟨i, hi⟩) (k' := 1) (by rw [duties_bar]; exact Finset.mem_univ _) (amount_bar m _ _) ()
      (dueOf (barT c) every (i + 1) + O) (add_right_comm _ _ _) (W := W) (hr := route_peer c ⟨i, hi⟩)) $$ [HO Htok Hpay]
  · isplitr; · iapply hI; iexact Hrec
    isplitl [HO]; · iexact HO
    isplitl [Htok]; · iexact Htok
    isplitl [Hpay]; · rw [payload_bar, pay_sig]; iexact Hpay
    iapply hr; iexact Hrec
  iintro HO
  iapply h
  isplitr; · iexact Hrec
  isplitr [HR]
  · isplitl [Hres']; · iexact Hres'
    iexists W; iexact HO
  · iexact HR

/-! ## The wait on the barrier -/

/-- What the 31 signals bring: of every peer its slot for this device's transfer, and its rows of this device's part of the
    gathered result. -/
def barGot : sProp 𝕄 :=
  iprop((bigSep Finset.univ fun j => iprop(∃ f, slotPts (F := F) (peer c j) (rev j) f))
    ∗ (bigSep Finset.univ fun j => iprop(∃ f, agPts (F := F) (peer c j) c fullShare f)))

/-- The peers numbered from the other side. -/
def revE : Fin 31 ≃ Fin 31 := ⟨rev, rev, rev_rev, rev_rev⟩

theorem barGot_eq : (bigSep Finset.univ fun j => barPay (F := F) c j) = barGot c := by
  rw [bigSep_univ_equiv revE]
  show (bigSep Finset.univ fun j => barPay (F := F) c (rev j)) = _
  unfold barGot barPay
  rw [← bigSep_sep']
  exact bigSep_congr fun j _ => by rw [rev_rev]

theorem step_barrier {Q : α → sProp 𝕄} {R : sProp 𝕄} {sem : Sem sig} {n : ℤ} {O : CellTallies nD τ sig Unit} {k : PUnit → CoreProg F α}
    (hsem : sem = barS) (hn : n = (31 : ℕ)) (hO : Above 1 O)
    (h : iprop(records m K ∗ (barGot c ∗ semVal (barCell c) 0 ∗ due c O) ∗ R) ⊢ wpc c (k ⟨⟩) Q) :
    iprop(records m K ∗ (atPos ER (barCell c) 0 ∅ 0 ∗ cred (tallyAt (barCell c) () 31) ∗ due c O) ∗ R)
      ⊢ wpc c (.op (.semWait sem n) k) Q := by
  subst hsem hn
  have hI := records_inv m K (c, none)
  have hL := (records_levels m K).trans (mayWait_of_above c (.reg barS) (n := 1) (O := O) (le_refl 1) hO)
  unfold due at h ⊢
  iintro ⟨#Hrec, ⟨Hat, Hc, ⟨%W, HO⟩⟩, HR⟩
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply hI; iexact Hrec
    isplitl [Hc]; · iexact Hc
    isplitl [HO]; · iexact HO
    isplitr; · iapply hL; iexact Hrec
    iexact Hat
  iintro ⟨HO, Hat, -, Hpay⟩
  ihave Hp := (Entails.of_eq ((rest_bar m c).trans (barGot_eq c))) $$ Hpay
  imod (Rounds.cell_close ER (sched m) (Set.mem_univ (K (c, none))) (fun h => h) (R := 0 + 1) (duties_later m (barCell c))) $$ [Hat] with Hz
  · isplitr; · iapply hI; iexact Hrec
    iexact Hat
  iapply h
  isplitr; · iexact Hrec
  isplitr [HR]
  · isplitl [Hp]; · iexact Hp
    isplitl [Hz]; · iexact Hz
    iexists _; iexact HO
  · iexact HR

/-! ## The waits on DMA semaphores -/

/-- A family of waits: the positions and credits of the coming ones, the counters at zero and payloads of the finished ones. -/
def waitSt (f : Fin 4) (i : ℕ) (O : CellTallies nD τ sig Unit) : sProp 𝕄 :=
  iprop((bigSep (todo every i) fun j => iprop(atPos ER (cell f c j) 0 ∅ 0 ∗ cred (tallyAt (cell f c j) () N)))
    ∗ (bigSep (done every i) fun j => iprop(semVal (cell f c j) 0 ∗ dmaPay m f c j)) ∗ due c O)

theorem step_wait {Q : α → sProp 𝕄} {R : sProp 𝕄} (f : Fin 4) (i : ℕ) (hi : i < 31) {sp sp' : Space} {s s' : Shape} {e e' : EltTy} {src : Memref sig .tc sp s e}
    {dst : Memref sig .tc sp' s' e'} {sem : DmaSem sig} {hs hd} {O : CellTallies nD τ sig Unit} {k : PUnit → CoreProg F α}
    (hsem : sem = dsem f ⟨i, hi⟩) (hN : dst.view.dmaCredit = N) (lev : ℕ) (hlev : (if f = 1 then 2 else if f = 3 then 3 else 0) ≤ lev) (hO : Above lev O)
    (h : iprop(records m K ∗ waitSt m c f (i + 1) O ∗ R) ⊢ wpc c (k ⟨⟩) Q) :
    iprop(records m K ∗ waitSt m c f i O ∗ R) ⊢ wpc c (.op (TpuEff.waitDma2 (p := .tc) sem src dst hs hd) k) Q := by
  subst hsem
  have hI := records_inv m K (c, some (f, ⟨i, hi⟩))
  have hL := (records_levels m K).trans (mayWait_of_above c (.dma (dsem f ⟨i, hi⟩)) (n := lev) (O := O) ((lv_cell f c ⟨i, hi⟩).trans_le hlev) hO)
  unfold waitSt due at h ⊢
  rw [bigSep_done hi rfl] at h
  rw [bigSep_todo hi rfl]
  iintro ⟨#Hrec, ⟨⟨⟨Hat, Hc⟩, Htodo⟩, Hdone, ⟨%W, HO⟩⟩, HR⟩
  iapply (Rounds.wp_wait_rest_token 𝒱₀ ER (sched m) (c : Thread nD τ) none (κ := K (c, some (f, ⟨i, hi⟩))) (k' := N)
      (fun Ko => (wpE_waitDma2_eq 𝒱₀ (c : Thread nD τ) none Set.univ Ko).trans (by rw [hN])) (Set.mem_univ _) () (O := O) (W := W) (R := 0) (m := 0) (T := ∅)
      (by rw [expect_dma, Nat.zero_add])) $$ [Hc HO Hat]
  · isplitr; · iapply hI; iexact Hrec
    isplitl [Hc]; · iexact Hc
    isplitl [HO]; · iexact HO
    isplitr; · iapply hL; iexact Hrec
    iexact Hat
  iintro ⟨HO, Hat, -, Hpay⟩
  ihave Hp := (Entails.of_eq (rest_dma m c f ⟨i, hi⟩)) $$ Hpay
  imod (Rounds.cell_close ER (sched m) (Set.mem_univ (K (c, some (f, ⟨i, hi⟩)))) (fun h => h) (R := 0 + 1) (duties_later m (cell f c ⟨i, hi⟩))) $$ [Hat] with Hz
  · isplitr; · iapply hI; iexact Hrec
    iexact Hat
  iapply h
  isplitr; · iexact Hrec
  isplitr [HR]
  · isplitl [Htodo]; · iexact Htodo
    isplitr [HO]
    · isplitl [Hz Hp]
      · isplitl [Hz] <;> iassumption
      · iexact Hdone
    · iexists _; iexact HO
  · iexact HR

/-! ## The places the transfers read and write -/

theorem accV_emb (d : Dev nD) (x : S8x1024.Idx) :
    (accV d).view.emb x = ix2 ⟨8 * d.val + (x 0).val, by have h1 : (x 0).val < 8 := (x 0).isLt; have hd : d.val < 32 := d.isLt; omega⟩ (x 1) := by
  funext a
  refine Fin.ext ?_
  fin_cases a
  · show 8 * d.val + 1 * (x 0).val = 8 * d.val + (x 0).val; omega
  · show 0 + 1 * (x 1).val = (x 1).val; omega
theorem agV_emb (d : Dev nD) (x : S8x1024.Idx) :
    (agV d).view.emb x = ix2 ⟨8 * d.val + (x 0).val, by have h1 : (x 0).val < 8 := (x 0).isLt; have hd : d.val < 32 := d.isLt; omega⟩ (x 1) := by
  funext a
  refine Fin.ext ?_
  fin_cases a
  · show 8 * d.val + 1 * (x 0).val = 8 * d.val + (x 0).val; omega
  · show 0 + 1 * (x 1).val = (x 1).val; omega
theorem slotV_emb (s : Fin 31) (x : S8x1024.Idx) : (slotV s).view.emb x = ix3 s (x 0) (x 1) := by
  show (slotR s).emb (Shape.reshapeEquiv _ x) = _
  rw [Shape.reshapeEquiv_cons_one]
  funext a
  refine Fin.ext ?_
  fin_cases a
  · show s.val + 1 * 0 = s.val; omega
  · show 0 + 1 * (x 0).val = (x 0).val; omega
  · show 0 + 1 * (x 1).val = (x 1).val; omega

theorem slot_amount (s : Fin 31) (q : DmaSem sig) : (slotV s).view.amount (.dma q) = N := rfl
theorem ag_amount (d : Dev nD) (q : DmaSem sig) : (agV d).view.amount (.dma q) = N := rfl

/-- What a transfer of the reduce-scatter lands in a slot. -/
theorem land_rs (c : Dev nD) (j : Fin 31) (f : Buf (Elt F) (((peer c j : Dev nD) : Thread nD τ).loc cc0_scratch2)) :
    ((slotV (rev j)).view.loc (peer c j : Thread nD τ) ↦[(slotV (rev j)).view.set]{fullShare}
        ((slotV (rev j)).view.write (Elt F) f ((accV (peer c j)).view.read (Elt F) (accAll m c)) Finset.univ) : sProp 𝕄)
      = slotPts (peer c j) (rev j) (landed m (peer c j)) := by
  unfold slotPts
  refine pointsTo_congr fun i hi => ?_
  obtain ⟨x, -, rfl⟩ := Finset.mem_map.mp hi
  refine (View.write_emb_of_mem (v := (slotV (rev j)).view) _ _ (Finset.mem_univ x)).trans ?_
  rw [View.read_apply, accV_emb, slotV_emb]
  dsimp only [landed]
  show _ = accAll m (peer (peer c j) (rev j)) _
  rw [peer_rev]
  rfl

/-- What a transfer of the all-gather lands in a peer's gathered result. -/
theorem land_ag (c : Dev nD) (p : Dev nD) (f : Buf (Elt F) ((p : Thread nD τ).loc cc0_scratch1)) :
    ((agV c).view.loc (p : Thread nD τ) ↦[(agV c).view.set]{fullShare}
        ((agV c).view.write (Elt F) f ((agV c).view.read (Elt F) (gath m)) Finset.univ) : sProp 𝕄)
      = agPts p c fullShare (gath m) := by
  unfold agPts
  refine pointsTo_congr fun i hi => ?_
  obtain ⟨x, -, rfl⟩ := Finset.mem_map.mp hi
  exact View.write_emb_of_mem (v := (agV c).view) _ _ (Finset.mem_univ x)

/-! ## The sends of the reduce-scatter -/

/-- What send `j` takes: the peer's rows of the partial product, two duties, the peer's slot. -/
def rsRes (j : Fin 31) : sProp 𝕄 :=
  iprop(accPts c (peer c j) (accAll m c) ∗ dutyTok ER (cell 0 c j) 0 0 ∗ dutyTok ER (cell 1 (peer c j) (rev j)) 0 0
    ∗ ∃ f, slotPts (F := F) (peer c j) (rev j) f)
def rsSt (b : Fin 31 → Bool) (i : ℕ) (O : CellTallies nD τ sig Unit) : sProp 𝕄 :=
  iprop(bigSep (todo b i) (rsRes m c) ∗ (bigSep (done b i) fun j => cred (tallyAt (cell 0 c j) () N)) ∗ due c (dueOf (rsT c) b i + O))

/-- The rule of an addressed transfer at the reduce-scatter's cells. -/
theorem wp_send_rs {Q : α → sProp 𝕄} (j : Fin 31) {hsc : (slotV (rev j)).view.ref.isScScratch = false}
    {hs : (accV (peer c j)).view.WordExact} {hd : (slotV (rev j)).view.WordExact}
    {hsem : DmaTarget.Typed .vmem (.dma (dsem 1 (rev j))) (.remote (Dev.tc (peer c j) : Thread nD τ) (slotV (rev j)) (.dma (dsem 0 j)) hsc)}
    {k : PUnit → CoreProg F α} (f : Buf (Elt F) (((peer c j : Dev nD) : Thread nD τ).loc cc0_scratch2)) (O O₀ : CellTallies nD τ sig Unit)
    (hO : O₀ = O + rsT c j) (W : Waits sig Unit) :
    iprop(cellInv ER (sched m) (K (c, some (0, j))) (cell 0 c j) ∗ cellInv ER (sched m) (K (peer c j, some (1, rev j))) (cell 1 (peer c j) (rev j))
        ∗ accPts c (peer c j) (accAll m c) ∗ slotPts (peer c j) (rev j) f
        ∗ owes (c : Thread nD τ) O₀ W
        ∗ dutyTok ER (cell 0 c j) 0 0 ∗ reached ER (cell 0 c j) 0
        ∗ dutyTok ER (cell 1 (peer c j) (rev j)) 0 0 ∗ reached ER (cell 1 (peer c j) (rev j)) 0)
      ⊢ iprop(((cred (tallyAt (cell 0 c j) () N) ∗ owes (c : Thread nD τ) O W) -∗ wpc c (k ⟨⟩) Q)
          -∗ wpc c (.op (.enqueueDma (accV (peer c j)) (.remote (Dev.tc (peer c j) : Thread nD τ) (slotV (rev j)) (.dma (dsem 0 j)) hsc) (.dma (dsem 1 (rev j))) hs hd hsem) k) Q) := by
  unfold accPts slotPts
  exact Rounds.wp_send_pointsTo 𝒱₀ ER (sched m) (c : Thread nD τ) none (κ₁ := K (c, some (0, j))) (κ₂ := K (peer c j, some (1, rev j)))
    (c' := (peer c j : Thread nD τ)) (src := accV (peer c j)) (dst := slotV (rev j)) (sS := .dma (dsem 0 j)) (sem := .dma (dsem 1 (rev j))) (q := fullShare) (fs := accAll m c) (k := k)
    (r₁ := 0) (r₂ := 0) (d₁ := 0) (d₂ := 0) (fd := f)
    (by rw [duties_dma]; exact Finset.mem_singleton_self _) (by rw [duties_dma]; exact Finset.mem_singleton_self _)
    () () N (slot_amount _ _) (amount_dma m c 0 j 0) (amount_dma m (peer c j) 1 (rev j) 0) O hO (W := W)
    (Entails.of_eq (payload_dma m c 0 j 0).symm)
    (by rw [payload_dma]; exact Entails.of_eq (land_rs m c j f)) (hr := route_peer c j)

theorem step_rs {Q : α → sProp 𝕄} {R : sProp 𝕄} (b : Fin 31 → Bool) (i : ℕ) (hi : i < 31) {O : CellTallies nD τ sig Unit}
    {cond : Prop} [Decidable cond] {src : cond → Memref sig .tc .vmem S8x1024 .bf16} {dev : cond → Dev nD}
    {dst : cond → Memref sig .tc .vmem S8x1024 .bf16} {s₁ s₂ : cond → DmaSem sig}
    {hsc : ∀ h, (dst h).view.ref.isScScratch = false} {hs : ∀ h, (src h).view.WordExact} {hd : ∀ h, (dst h).view.WordExact}
    {hsem : ∀ h, DmaTarget.Typed .vmem (.dma (s₂ h)) (.remote (Dev.tc (dev h) : Thread nD τ) (dst h) (.dma (s₁ h)) (hsc h))}
    {kk : CoreProg F α} (hb : cond ↔ b ⟨i, hi⟩ = true)
    (hsrc : ∀ h, src h = accV (peer c ⟨i, hi⟩)) (hdev : ∀ h, dev h = peer c ⟨i, hi⟩) (hdst : ∀ h, dst h = slotV (rev ⟨i, hi⟩))
    (hs₁ : ∀ h, s₁ h = dsem 0 ⟨i, hi⟩) (hs₂ : ∀ h, s₂ h = dsem 1 (rev ⟨i, hi⟩))
    (h : iprop(records m K ∗ rsSt m c b (i + 1) O ∗ R) ⊢ wpc c kk Q) :
    iprop(records m K ∗ rsSt m c b i O ∗ R)
      ⊢ wpc c (if h : cond then .op (.enqueueDma (src h) (.remote (Dev.tc (dev h) : Thread nD τ) (dst h) (.dma (s₁ h)) (hsc h))
          (.dma (s₂ h)) (hs h) (hd h) (hsem h)) fun _ => kk else kk) Q := by
  by_cases hc : cond
  · rw [dif_pos hc]
    have hbt := hb.mp hc
    have e₁ := hsrc hc
    have e₂ := hdev hc
    have e₃ := hdst hc
    have e₄ := hs₁ hc
    have e₅ := hs₂ hc
    generalize src hc = src', dev hc = dev', dst hc = dst', s₁ hc = s₁', s₂ hc = s₂', hsc hc = hsc', hs hc = hs', hd hc = hd', hsem hc = hsem' at *
    subst e₁ e₂ e₃ e₄ e₅
    have hI := records_inv m K (c, some (0, ⟨i, hi⟩))
    have hI' := records_inv m K (peer c ⟨i, hi⟩, some (1, rev ⟨i, hi⟩))
    have hr := records_reached m K (c, some (0, ⟨i, hi⟩))
    have hr' := records_reached m K (peer c ⟨i, hi⟩, some (1, rev ⟨i, hi⟩))
    unfold rsSt due at h ⊢
    rw [bigSep_done hi hbt] at h
    rw [bigSep_todo hi hbt, dueOf_step hi hbt]
    iintro ⟨#Hrec, ⟨⟨Hres, Htodo⟩, Hdone, ⟨%W, HO⟩⟩, HR⟩
    unfold rsRes
    icases Hres with ⟨Hsrc, Ht₁, Ht₂, ⟨%f, Hdst⟩⟩
    iapply (wp_send_rs m K c ⟨i, hi⟩ f (dueOf (rsT c) b (i + 1) + O) _ (add_right_comm _ _ _) W) $$ [Hsrc Hdst HO Ht₁ Ht₂]
    · isplitr; · iapply hI; iexact Hrec
      isplitr; · iapply hI'; iexact Hrec
      isplitl [Hsrc]; · iexact Hsrc
      isplitl [Hdst]; · iexact Hdst
      isplitl [HO]; · iexact HO
      isplitl [Ht₁]; · iexact Ht₁
      isplitr; · iapply hr; iexact Hrec
      isplitl [Ht₂]; · iexact Ht₂
      iapply hr'; iexact Hrec
    iintro ⟨Hc, HO⟩
    iapply h
    isplitr; · iexact Hrec
    isplitr [HR]
    · isplitl [Htodo]; · iexact Htodo
      isplitr [HO]
      · isplitl [Hc] <;> iassumption
      · iexists W; iexact HO
    · iexact HR
  · rw [dif_neg hc]
    have hbf : b ⟨i, hi⟩ = false := by
      rcases hbb : b ⟨i, hi⟩ with _ | _
      · rfl
      · exact absurd (hb.mpr hbb) hc
    refine Entails.trans (Entails.of_eq ?_) h
    unfold rsSt
    rw [todo_skip hi hbf, done_skip hi hbf, dueOf_skip hi hbf]

/-! ## The sends of the all-gather -/

/-- What send `j` takes: a share of the device's own reduced rows, two duties, the peer's copy of those rows. -/
def agRes (j : Fin 31) : sProp 𝕄 :=
  iprop(agPts c c (lend j) (gath m) ∗ dutyTok ER (cell 2 c j) 0 0 ∗ dutyTok ER (cell 3 (peer c j) (rev j)) 0 0
    ∗ ∃ f, agPts (F := F) (peer c j) c fullShare f)
def agSt (i : ℕ) (O : CellTallies nD τ sig Unit) : sProp 𝕄 :=
  iprop(bigSep (todo every i) (agRes m c) ∗ (bigSep (done every i) fun j => cred (tallyAt (cell 2 c j) () N)) ∗ due c (dueOf (agT c) every i + O))

/-- The rule of an addressed transfer at the all-gather's cells. -/
theorem wp_send_ag {Q : α → sProp 𝕄} (j : Fin 31) {hsc : (agV c).view.ref.isScScratch = false}
    {hs : (agV c).view.WordExact} {hd : (agV c).view.WordExact}
    {hsem : DmaTarget.Typed .vmem (.dma (dsem 3 (rev j))) (.remote (Dev.tc (peer c j) : Thread nD τ) (agV c) (.dma (dsem 2 j)) hsc)}
    {k : PUnit → CoreProg F α} (f : Buf (Elt F) (((peer c j : Dev nD) : Thread nD τ).loc cc0_scratch1)) (O O₀ : CellTallies nD τ sig Unit)
    (hO : O₀ = O + agT c j) (W : Waits sig Unit) :
    iprop(cellInv ER (sched m) (K (c, some (2, j))) (cell 2 c j) ∗ cellInv ER (sched m) (K (peer c j, some (3, rev j))) (cell 3 (peer c j) (rev j))
        ∗ agPts c c (lend j) (gath m) ∗ agPts (peer c j) c fullShare f
        ∗ owes (c : Thread nD τ) O₀ W
        ∗ dutyTok ER (cell 2 c j) 0 0 ∗ reached ER (cell 2 c j) 0
        ∗ dutyTok ER (cell 3 (peer c j) (rev j)) 0 0 ∗ reached ER (cell 3 (peer c j) (rev j)) 0)
      ⊢ iprop(((cred (tallyAt (cell 2 c j) () N) ∗ owes (c : Thread nD τ) O W) -∗ wpc c (k ⟨⟩) Q)
          -∗ wpc c (.op (.enqueueDma (agV c) (.remote (Dev.tc (peer c j) : Thread nD τ) (agV c) (.dma (dsem 2 j)) hsc) (.dma (dsem 3 (rev j))) hs hd hsem) k) Q) := by
  unfold agPts
  exact Rounds.wp_send_pointsTo 𝒱₀ ER (sched m) (c : Thread nD τ) none (κ₁ := K (c, some (2, j))) (κ₂ := K (peer c j, some (3, rev j)))
    (c' := (peer c j : Thread nD τ)) (src := agV c) (dst := agV c) (sS := .dma (dsem 2 j)) (sem := .dma (dsem 3 (rev j))) (q := lend j) (fs := gath m) (k := k)
    (r₁ := 0) (r₂ := 0) (d₁ := 0) (d₂ := 0) (fd := f)
    (by rw [duties_dma]; exact Finset.mem_singleton_self _) (by rw [duties_dma]; exact Finset.mem_singleton_self _)
    () () N (ag_amount _ _) (amount_dma m c 2 j 0) (amount_dma m (peer c j) 3 (rev j) 0) O hO (W := W)
    (Entails.of_eq (payload_dma m c 2 j 0).symm)
    (by rw [payload_dma]; exact Entails.of_eq ((land_ag m c (peer c j) f).trans (by unfold dmaPay; rw [if_neg (by decide), if_neg (by decide), if_neg (by decide), peer_rev]))) (hr := route_peer c j)

theorem step_ag {Q : α → sProp 𝕄} {R : sProp 𝕄} (i : ℕ) (hi : i < 31) {O : CellTallies nD τ sig Unit}
    {src : Memref sig .tc .vmem S8x1024 .bf16} {dev : Dev nD}
    {dst : Memref sig .tc .vmem S8x1024 .bf16} {s₁ s₂ : DmaSem sig}
    {hsc : dst.view.ref.isScScratch = false} {hs : src.view.WordExact} {hd : dst.view.WordExact}
    {hsem : DmaTarget.Typed .vmem (.dma s₂) (.remote (Dev.tc dev : Thread nD τ) dst (.dma s₁) hsc)}
    {k : PUnit → CoreProg F α}
    (hsrc : src = agV c) (hdev : dev = peer c ⟨i, hi⟩) (hdst : dst = agV c)
    (hs₁ : s₁ = dsem 2 ⟨i, hi⟩) (hs₂ : s₂ = dsem 3 (rev ⟨i, hi⟩))
    (h : iprop(records m K ∗ agSt m c (i + 1) O ∗ R) ⊢ wpc c (k ⟨⟩) Q) :
    iprop(records m K ∗ agSt m c i O ∗ R)
      ⊢ wpc c (.op (.enqueueDma src (.remote (Dev.tc dev : Thread nD τ) dst (.dma s₁) hsc) (.dma s₂) hs hd hsem) k) Q := by
  subst hsrc hdev hdst hs₁ hs₂
  have hI := records_inv m K (c, some (2, ⟨i, hi⟩))
  have hI' := records_inv m K (peer c ⟨i, hi⟩, some (3, rev ⟨i, hi⟩))
  have hr := records_reached m K (c, some (2, ⟨i, hi⟩))
  have hr' := records_reached m K (peer c ⟨i, hi⟩, some (3, rev ⟨i, hi⟩))
  unfold agSt due at h ⊢
  rw [bigSep_done hi rfl] at h
  rw [bigSep_todo hi rfl, dueOf_step hi rfl]
  iintro ⟨#Hrec, ⟨⟨Hres, Htodo⟩, Hdone, ⟨%W, HO⟩⟩, HR⟩
  unfold agRes
  icases Hres with ⟨Hsrc, Ht₁, Ht₂, ⟨%f, Hdst⟩⟩
  iapply (wp_send_ag m K c ⟨i, hi⟩ f (dueOf (agT c) every (i + 1) + O) _ (add_right_comm _ _ _) W) $$ [Hsrc Hdst HO Ht₁ Ht₂]
  · isplitr; · iapply hI; iexact Hrec
    isplitr; · iapply hI'; iexact Hrec
    isplitl [Hsrc]; · iexact Hsrc
    isplitl [Hdst]; · iexact Hdst
    isplitl [HO]; · iexact HO
    isplitl [Ht₁]; · iexact Ht₁
    isplitr; · iapply hr; iexact Hrec
    isplitl [Ht₂]; · iexact Ht₂
    iapply hr'; iexact Hrec
  iintro ⟨Hc, HO⟩
  iapply h
  isplitr; · iexact Hrec
  isplitr [HR]
  · isplitl [Htodo]; · iexact Htodo
    isplitr [HO]
    · isplitl [Hc] <;> iassumption
    · iexists W; iexact HO
  · iexact HR

end Cert.Mha

end
-- ==== Proof.Words.lean ====
/-
The words the body computes from a device's number, family by family, in closed form: whom it signals, whom and where
from it sends, and which of the two conditional sends to a peer it takes.
-/
module

public import proofs.«01_k».proof.Proof.Steps
public import proofs.«01_k».proof.Proof.Gen.KernelIdeal.Skeleton

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The devices signalled. -/
theorem dev_sig : ∀ c : Dev nD,
    k0_dev1 c = (c.val + 1) % 32 ∧ k0_dev2 c = (c.val + 2) % 32 ∧ k0_dev3 c = (c.val + 3) % 32 ∧ k0_dev4 c = (c.val + 4) % 32 ∧
    k0_dev5 c = (c.val + 5) % 32 ∧ k0_dev6 c = (c.val + 6) % 32 ∧ k0_dev7 c = (c.val + 7) % 32 ∧ k0_dev8 c = (c.val + 8) % 32 ∧
    k0_dev9 c = (c.val + 9) % 32 ∧ k0_dev10 c = (c.val + 10) % 32 ∧ k0_dev11 c = (c.val + 11) % 32 ∧ k0_dev12 c = (c.val + 12) % 32 ∧
    k0_dev13 c = (c.val + 13) % 32 ∧ k0_dev14 c = (c.val + 14) % 32 ∧ k0_dev15 c = (c.val + 15) % 32 ∧ k0_dev16 c = (c.val + 16) % 32 ∧
    k0_dev17 c = (c.val + 17) % 32 ∧ k0_dev18 c = (c.val + 18) % 32 ∧ k0_dev19 c = (c.val + 19) % 32 ∧ k0_dev20 c = (c.val + 20) % 32 ∧
    k0_dev21 c = (c.val + 21) % 32 ∧ k0_dev22 c = (c.val + 22) % 32 ∧ k0_dev23 c = (c.val + 23) % 32 ∧ k0_dev24 c = (c.val + 24) % 32 ∧
    k0_dev25 c = (c.val + 25) % 32 ∧ k0_dev26 c = (c.val + 26) % 32 ∧ k0_dev27 c = (c.val + 27) % 32 ∧ k0_dev28 c = (c.val + 28) % 32 ∧
    k0_dev29 c = (c.val + 29) % 32 ∧ k0_dev30 c = (c.val + 30) % 32 ∧ k0_dev31 c = (c.val + 31) % 32 := by
  decide +kernel

/-- The targets of the sends after the lower half. -/
theorem dev_lo : ∀ c : Dev nD,
    k0_dev32 c = (c.val + 1) % 32 ∧ k0_dev33 c = (c.val + 2) % 32 ∧ k0_dev34 c = (c.val + 3) % 32 ∧ k0_dev35 c = (c.val + 4) % 32 ∧
    k0_dev36 c = (c.val + 5) % 32 ∧ k0_dev37 c = (c.val + 6) % 32 ∧ k0_dev38 c = (c.val + 7) % 32 ∧ k0_dev39 c = (c.val + 8) % 32 ∧
    k0_dev40 c = (c.val + 9) % 32 ∧ k0_dev41 c = (c.val + 10) % 32 ∧ k0_dev42 c = (c.val + 11) % 32 ∧ k0_dev43 c = (c.val + 12) % 32 ∧
    k0_dev44 c = (c.val + 13) % 32 ∧ k0_dev45 c = (c.val + 14) % 32 ∧ k0_dev46 c = (c.val + 15) % 32 ∧ k0_dev47 c = (c.val + 16) % 32 ∧
    k0_dev48 c = (c.val + 17) % 32 ∧ k0_dev49 c = (c.val + 18) % 32 ∧ k0_dev50 c = (c.val + 19) % 32 ∧ k0_dev51 c = (c.val + 20) % 32 ∧
    k0_dev52 c = (c.val + 21) % 32 ∧ k0_dev53 c = (c.val + 22) % 32 ∧ k0_dev54 c = (c.val + 23) % 32 ∧ k0_dev55 c = (c.val + 24) % 32 ∧
    k0_dev56 c = (c.val + 25) % 32 ∧ k0_dev57 c = (c.val + 26) % 32 ∧ k0_dev58 c = (c.val + 27) % 32 ∧ k0_dev59 c = (c.val + 28) % 32 ∧
    k0_dev60 c = (c.val + 29) % 32 ∧ k0_dev61 c = (c.val + 30) % 32 ∧ k0_dev62 c = (c.val + 31) % 32 := by
  decide +kernel

/-- The targets of the sends after the upper half. -/
theorem dev_hi : ∀ c : Dev nD,
    k0_dev63 c = (c.val + 1) % 32 ∧ k0_dev64 c = (c.val + 2) % 32 ∧ k0_dev65 c = (c.val + 3) % 32 ∧ k0_dev66 c = (c.val + 4) % 32 ∧
    k0_dev67 c = (c.val + 5) % 32 ∧ k0_dev68 c = (c.val + 6) % 32 ∧ k0_dev69 c = (c.val + 7) % 32 ∧ k0_dev70 c = (c.val + 8) % 32 ∧
    k0_dev71 c = (c.val + 9) % 32 ∧ k0_dev72 c = (c.val + 10) % 32 ∧ k0_dev73 c = (c.val + 11) % 32 ∧ k0_dev74 c = (c.val + 12) % 32 ∧
    k0_dev75 c = (c.val + 13) % 32 ∧ k0_dev76 c = (c.val + 14) % 32 ∧ k0_dev77 c = (c.val + 15) % 32 ∧ k0_dev78 c = (c.val + 16) % 32 ∧
    k0_dev79 c = (c.val + 17) % 32 ∧ k0_dev80 c = (c.val + 18) % 32 ∧ k0_dev81 c = (c.val + 19) % 32 ∧ k0_dev82 c = (c.val + 20) % 32 ∧
    k0_dev83 c = (c.val + 21) % 32 ∧ k0_dev84 c = (c.val + 22) % 32 ∧ k0_dev85 c = (c.val + 23) % 32 ∧ k0_dev86 c = (c.val + 24) % 32 ∧
    k0_dev87 c = (c.val + 25) % 32 ∧ k0_dev88 c = (c.val + 26) % 32 ∧ k0_dev89 c = (c.val + 27) % 32 ∧ k0_dev90 c = (c.val + 28) % 32 ∧
    k0_dev91 c = (c.val + 29) % 32 ∧ k0_dev92 c = (c.val + 30) % 32 ∧ k0_dev93 c = (c.val + 31) % 32 := by
  decide +kernel

/-- The targets of the all-gather's sends. -/
theorem dev_ag : ∀ c : Dev nD,
    k0_dev94 c = (c.val + 1) % 32 ∧ k0_dev95 c = (c.val + 2) % 32 ∧ k0_dev96 c = (c.val + 3) % 32 ∧ k0_dev97 c = (c.val + 4) % 32 ∧
    k0_dev98 c = (c.val + 5) % 32 ∧ k0_dev99 c = (c.val + 6) % 32 ∧ k0_dev100 c = (c.val + 7) % 32 ∧ k0_dev101 c = (c.val + 8) % 32 ∧
    k0_dev102 c = (c.val + 9) % 32 ∧ k0_dev103 c = (c.val + 10) % 32 ∧ k0_dev104 c = (c.val + 11) % 32 ∧ k0_dev105 c = (c.val + 12) % 32 ∧
    k0_dev106 c = (c.val + 13) % 32 ∧ k0_dev107 c = (c.val + 14) % 32 ∧ k0_dev108 c = (c.val + 15) % 32 ∧ k0_dev109 c = (c.val + 16) % 32 ∧
    k0_dev110 c = (c.val + 17) % 32 ∧ k0_dev111 c = (c.val + 18) % 32 ∧ k0_dev112 c = (c.val + 19) % 32 ∧ k0_dev113 c = (c.val + 20) % 32 ∧
    k0_dev114 c = (c.val + 21) % 32 ∧ k0_dev115 c = (c.val + 22) % 32 ∧ k0_dev116 c = (c.val + 23) % 32 ∧ k0_dev117 c = (c.val + 24) % 32 ∧
    k0_dev118 c = (c.val + 25) % 32 ∧ k0_dev119 c = (c.val + 26) % 32 ∧ k0_dev120 c = (c.val + 27) % 32 ∧ k0_dev121 c = (c.val + 28) % 32 ∧
    k0_dev122 c = (c.val + 29) % 32 ∧ k0_dev123 c = (c.val + 30) % 32 ∧ k0_dev124 c = (c.val + 31) % 32 := by
  decide +kernel

/-- The rows sent after the lower half. -/
theorem off_lo : ∀ c : Dev nD,
    k0_off1 c = ![8 * ((c.val + 1) % 32), 0] ∧ k0_off2 c = ![8 * ((c.val + 2) % 32), 0] ∧ k0_off3 c = ![8 * ((c.val + 3) % 32), 0] ∧ k0_off4 c = ![8 * ((c.val + 4) % 32), 0] ∧
    k0_off5 c = ![8 * ((c.val + 5) % 32), 0] ∧ k0_off6 c = ![8 * ((c.val + 6) % 32), 0] ∧ k0_off7 c = ![8 * ((c.val + 7) % 32), 0] ∧ k0_off8 c = ![8 * ((c.val + 8) % 32), 0] ∧
    k0_off9 c = ![8 * ((c.val + 9) % 32), 0] ∧ k0_off10 c = ![8 * ((c.val + 10) % 32), 0] ∧ k0_off11 c = ![8 * ((c.val + 11) % 32), 0] ∧ k0_off12 c = ![8 * ((c.val + 12) % 32), 0] ∧
    k0_off13 c = ![8 * ((c.val + 13) % 32), 0] ∧ k0_off14 c = ![8 * ((c.val + 14) % 32), 0] ∧ k0_off15 c = ![8 * ((c.val + 15) % 32), 0] ∧ k0_off16 c = ![8 * ((c.val + 16) % 32), 0] ∧
    k0_off17 c = ![8 * ((c.val + 17) % 32), 0] ∧ k0_off18 c = ![8 * ((c.val + 18) % 32), 0] ∧ k0_off19 c = ![8 * ((c.val + 19) % 32), 0] ∧ k0_off20 c = ![8 * ((c.val + 20) % 32), 0] ∧
    k0_off21 c = ![8 * ((c.val + 21) % 32), 0] ∧ k0_off22 c = ![8 * ((c.val + 22) % 32), 0] ∧ k0_off23 c = ![8 * ((c.val + 23) % 32), 0] ∧ k0_off24 c = ![8 * ((c.val + 24) % 32), 0] ∧
    k0_off25 c = ![8 * ((c.val + 25) % 32), 0] ∧ k0_off26 c = ![8 * ((c.val + 26) % 32), 0] ∧ k0_off27 c = ![8 * ((c.val + 27) % 32), 0] ∧ k0_off28 c = ![8 * ((c.val + 28) % 32), 0] ∧
    k0_off29 c = ![8 * ((c.val + 29) % 32), 0] ∧ k0_off30 c = ![8 * ((c.val + 30) % 32), 0] ∧ k0_off31 c = ![8 * ((c.val + 31) % 32), 0] := by
  decide +kernel

/-- The rows sent after the upper half. -/
theorem off_hi : ∀ c : Dev nD,
    k0_off32 c = ![8 * ((c.val + 1) % 32), 0] ∧ k0_off33 c = ![8 * ((c.val + 2) % 32), 0] ∧ k0_off34 c = ![8 * ((c.val + 3) % 32), 0] ∧ k0_off35 c = ![8 * ((c.val + 4) % 32), 0] ∧
    k0_off36 c = ![8 * ((c.val + 5) % 32), 0] ∧ k0_off37 c = ![8 * ((c.val + 6) % 32), 0] ∧ k0_off38 c = ![8 * ((c.val + 7) % 32), 0] ∧ k0_off39 c = ![8 * ((c.val + 8) % 32), 0] ∧
    k0_off40 c = ![8 * ((c.val + 9) % 32), 0] ∧ k0_off41 c = ![8 * ((c.val + 10) % 32), 0] ∧ k0_off42 c = ![8 * ((c.val + 11) % 32), 0] ∧ k0_off43 c = ![8 * ((c.val + 12) % 32), 0] ∧
    k0_off44 c = ![8 * ((c.val + 13) % 32), 0] ∧ k0_off45 c = ![8 * ((c.val + 14) % 32), 0] ∧ k0_off46 c = ![8 * ((c.val + 15) % 32), 0] ∧ k0_off47 c = ![8 * ((c.val + 16) % 32), 0] ∧
    k0_off48 c = ![8 * ((c.val + 17) % 32), 0] ∧ k0_off49 c = ![8 * ((c.val + 18) % 32), 0] ∧ k0_off50 c = ![8 * ((c.val + 19) % 32), 0] ∧ k0_off51 c = ![8 * ((c.val + 20) % 32), 0] ∧
    k0_off52 c = ![8 * ((c.val + 21) % 32), 0] ∧ k0_off53 c = ![8 * ((c.val + 22) % 32), 0] ∧ k0_off54 c = ![8 * ((c.val + 23) % 32), 0] ∧ k0_off55 c = ![8 * ((c.val + 24) % 32), 0] ∧
    k0_off56 c = ![8 * ((c.val + 25) % 32), 0] ∧ k0_off57 c = ![8 * ((c.val + 26) % 32), 0] ∧ k0_off58 c = ![8 * ((c.val + 27) % 32), 0] ∧ k0_off59 c = ![8 * ((c.val + 28) % 32), 0] ∧
    k0_off60 c = ![8 * ((c.val + 29) % 32), 0] ∧ k0_off61 c = ![8 * ((c.val + 30) % 32), 0] ∧ k0_off62 c = ![8 * ((c.val + 31) % 32), 0] := by
  decide +kernel

/-- When a peer's rows lie in the lower half. -/
theorem cond_lo : ∀ c : Dev nD,
    (k0_cond1 c = 1#1 ↔ (c.val + 1) % 32 < 16) ∧ (k0_cond2 c = 1#1 ↔ (c.val + 2) % 32 < 16) ∧ (k0_cond3 c = 1#1 ↔ (c.val + 3) % 32 < 16) ∧ (k0_cond4 c = 1#1 ↔ (c.val + 4) % 32 < 16) ∧
    (k0_cond5 c = 1#1 ↔ (c.val + 5) % 32 < 16) ∧ (k0_cond6 c = 1#1 ↔ (c.val + 6) % 32 < 16) ∧ (k0_cond7 c = 1#1 ↔ (c.val + 7) % 32 < 16) ∧ (k0_cond8 c = 1#1 ↔ (c.val + 8) % 32 < 16) ∧
    (k0_cond9 c = 1#1 ↔ (c.val + 9) % 32 < 16) ∧ (k0_cond10 c = 1#1 ↔ (c.val + 10) % 32 < 16) ∧ (k0_cond11 c = 1#1 ↔ (c.val + 11) % 32 < 16) ∧ (k0_cond12 c = 1#1 ↔ (c.val + 12) % 32 < 16) ∧
    (k0_cond13 c = 1#1 ↔ (c.val + 13) % 32 < 16) ∧ (k0_cond14 c = 1#1 ↔ (c.val + 14) % 32 < 16) ∧ (k0_cond15 c = 1#1 ↔ (c.val + 15) % 32 < 16) ∧ (k0_cond16 c = 1#1 ↔ (c.val + 16) % 32 < 16) ∧
    (k0_cond17 c = 1#1 ↔ (c.val + 17) % 32 < 16) ∧ (k0_cond18 c = 1#1 ↔ (c.val + 18) % 32 < 16) ∧ (k0_cond19 c = 1#1 ↔ (c.val + 19) % 32 < 16) ∧ (k0_cond20 c = 1#1 ↔ (c.val + 20) % 32 < 16) ∧
    (k0_cond21 c = 1#1 ↔ (c.val + 21) % 32 < 16) ∧ (k0_cond22 c = 1#1 ↔ (c.val + 22) % 32 < 16) ∧ (k0_cond23 c = 1#1 ↔ (c.val + 23) % 32 < 16) ∧ (k0_cond24 c = 1#1 ↔ (c.val + 24) % 32 < 16) ∧
    (k0_cond25 c = 1#1 ↔ (c.val + 25) % 32 < 16) ∧ (k0_cond26 c = 1#1 ↔ (c.val + 26) % 32 < 16) ∧ (k0_cond27 c = 1#1 ↔ (c.val + 27) % 32 < 16) ∧ (k0_cond28 c = 1#1 ↔ (c.val + 28) % 32 < 16) ∧
    (k0_cond29 c = 1#1 ↔ (c.val + 29) % 32 < 16) ∧ (k0_cond30 c = 1#1 ↔ (c.val + 30) % 32 < 16) ∧ (k0_cond31 c = 1#1 ↔ (c.val + 31) % 32 < 16) := by
  decide +kernel

/-- When a peer's rows lie in the upper half. -/
theorem cond_hi : ∀ c : Dev nD,
    (k0_cond32 c = 1#1 ↔ 16 ≤ (c.val + 1) % 32) ∧ (k0_cond33 c = 1#1 ↔ 16 ≤ (c.val + 2) % 32) ∧ (k0_cond34 c = 1#1 ↔ 16 ≤ (c.val + 3) % 32) ∧ (k0_cond35 c = 1#1 ↔ 16 ≤ (c.val + 4) % 32) ∧
    (k0_cond36 c = 1#1 ↔ 16 ≤ (c.val + 5) % 32) ∧ (k0_cond37 c = 1#1 ↔ 16 ≤ (c.val + 6) % 32) ∧ (k0_cond38 c = 1#1 ↔ 16 ≤ (c.val + 7) % 32) ∧ (k0_cond39 c = 1#1 ↔ 16 ≤ (c.val + 8) % 32) ∧
    (k0_cond40 c = 1#1 ↔ 16 ≤ (c.val + 9) % 32) ∧ (k0_cond41 c = 1#1 ↔ 16 ≤ (c.val + 10) % 32) ∧ (k0_cond42 c = 1#1 ↔ 16 ≤ (c.val + 11) % 32) ∧ (k0_cond43 c = 1#1 ↔ 16 ≤ (c.val + 12) % 32) ∧
    (k0_cond44 c = 1#1 ↔ 16 ≤ (c.val + 13) % 32) ∧ (k0_cond45 c = 1#1 ↔ 16 ≤ (c.val + 14) % 32) ∧ (k0_cond46 c = 1#1 ↔ 16 ≤ (c.val + 15) % 32) ∧ (k0_cond47 c = 1#1 ↔ 16 ≤ (c.val + 16) % 32) ∧
    (k0_cond48 c = 1#1 ↔ 16 ≤ (c.val + 17) % 32) ∧ (k0_cond49 c = 1#1 ↔ 16 ≤ (c.val + 18) % 32) ∧ (k0_cond50 c = 1#1 ↔ 16 ≤ (c.val + 19) % 32) ∧ (k0_cond51 c = 1#1 ↔ 16 ≤ (c.val + 20) % 32) ∧
    (k0_cond52 c = 1#1 ↔ 16 ≤ (c.val + 21) % 32) ∧ (k0_cond53 c = 1#1 ↔ 16 ≤ (c.val + 22) % 32) ∧ (k0_cond54 c = 1#1 ↔ 16 ≤ (c.val + 23) % 32) ∧ (k0_cond55 c = 1#1 ↔ 16 ≤ (c.val + 24) % 32) ∧
    (k0_cond56 c = 1#1 ↔ 16 ≤ (c.val + 25) % 32) ∧ (k0_cond57 c = 1#1 ↔ 16 ≤ (c.val + 26) % 32) ∧ (k0_cond58 c = 1#1 ↔ 16 ≤ (c.val + 27) % 32) ∧ (k0_cond59 c = 1#1 ↔ 16 ≤ (c.val + 28) % 32) ∧
    (k0_cond60 c = 1#1 ↔ 16 ≤ (c.val + 29) % 32) ∧ (k0_cond61 c = 1#1 ↔ 16 ≤ (c.val + 30) % 32) ∧ (k0_cond62 c = 1#1 ↔ 16 ≤ (c.val + 31) % 32) := by
  decide +kernel

/-- The peers whose rows lie in the lower half, and those whose rows lie in the upper half. -/
def low (c : Dev nD) (j : Fin 31) : Bool := decide ((c.val + (1 + j.val)) % 32 < 16)
def high (c : Dev nD) (j : Fin 31) : Bool := decide (16 ≤ (c.val + (1 + j.val)) % 32)

theorem peer_val' (c : Dev nD) (i : ℕ) (hi : i < 31) : (peer c ⟨i, hi⟩).val = (c.val + (i + 1)) % 32 := by
  rw [peer_val]
  exact congrArg (· % 32) (by show c.val + 1 + i = c.val + (i + 1); omega)

/-- A peer by its number. -/
theorem peer_of (c : Dev nD) (i : ℕ) (hi : i < 31) (x : ℕ) (hx : x < nD) (h : x = (c.val + (i + 1)) % 32) :
    (⟨x, hx⟩ : Dev nD) = peer c ⟨i, hi⟩ := Fin.ext (h.trans (peer_val' c i hi).symm)

/-- Eight rows sliced at a computed offset. -/
theorem acc_slice {off : Fin 2 → ℕ} {hin} {hs} (d : Dev nD) (h : off = ![8 * d.val, 0]) :
    accM.slice (Rect.unit (s := S256x1024) off S8x1024.size hin) hs = accV d := by subst h; rfl
theorem ag_slice {off : Fin 2 → ℕ} {hin} {hs} (d : Dev nD) (h : off = ![8 * d.val, 0]) :
    agM.slice (Rect.unit (s := S256x1024) off S8x1024.size hin) hs = agV d := by subst h; rfl
theorem acc_slice_peer (c : Dev nD) (i : ℕ) (hi : i < 31) {off : Fin 2 → ℕ} {hin} {hs} (h : off = ![8 * ((c.val + (i + 1)) % 32), 0]) :
    accM.slice (Rect.unit (s := S256x1024) off S8x1024.size hin) hs = accV (peer c ⟨i, hi⟩) :=
  acc_slice _ (by rw [h, peer_val'])

end Cert.Mha

end
-- ==== Proof.Pieces.lean ====
/-
The three scratch buffers in pieces: the partial product and the gathered result by the eight rows of each device, the
landing buffer by its slots; and the loads and stores of the body as steps over those pieces.
-/
module

public import proofs.«01_k».proof.Proof.Words

@[expose] public section

set_option maxRecDepth 16384

noncomputable section

namespace Cert.Mha

open Cert.KernelIdeal Cert.KernelIdeal.Gen
open Idealize.ShloMosaic
open Idealize.ShloMosaic.TcCoe
open Idealize.ShloMosaic.Ring (lead_disjoint lead_cover pointsTo_blocks)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers and their pieces -/

abbrev accW (c : Dev nD) (f : Buf (Elt F) ((c : Thread nD τ).loc cc0_scratch0)) : sProp 𝕄 := ((c : Thread nD τ).loc cc0_scratch0) ↦{fullShare} f
abbrev agW (c : Dev nD) (f : Buf (Elt F) ((c : Thread nD τ).loc cc0_scratch1)) : sProp 𝕄 := ((c : Thread nD τ).loc cc0_scratch1) ↦{fullShare} f
abbrev rsW (c : Dev nD) (f : Buf (Elt F) ((c : Thread nD τ).loc cc0_scratch2)) : sProp 𝕄 := ((c : Thread nD τ).loc cc0_scratch2) ↦{fullShare} f

theorem chunk_off (d : Dev nD) (a : Fin 2) (h : a ≠ 0) : (![8 * d.val, 0] : Fin 2 → ℕ) a = 0 := by
  fin_cases a
  · exact absurd rfl h
  · rfl
theorem slot_off (s : Fin 31) (a : Fin 3) (h : a ≠ 0) : (![s.val, 0, 0] : Fin 3 → ℕ) a = 0 := by
  fin_cases a
  · exact absurd rfl h
  · rfl
  · rfl
theorem chunk_size (a : Fin 2) (h : a ≠ 0) : S8x1024.size a = S256x1024.size a := by
  fin_cases a
  · exact absurd rfl h
  · rfl
theorem slot_size (a : Fin 3) (h : a ≠ 0) : S1x8x1024.size a = S31x8x1024.size a := by
  fin_cases a
  · exact absurd rfl h
  · rfl
  · rfl

theorem chunk_disjoint (d d' : Dev nD) (h : d ≠ d') : Disjoint (chunkR d).set (chunkR d').set :=
  lead_disjoint (s := S256x1024) (NB := 32) (0 : Fin 2) 8 (fun d => ![8 * d.val, 0]) S8x1024.size chunk_inb (fun _ => rfl) rfl d d' h
theorem chunk_cover : Finset.univ.biUnion (fun d : Dev nD => (chunkR d).set) = Finset.univ :=
  lead_cover (s := S256x1024) (NB := 32) (0 : Fin 2) 8 (fun d => ![8 * d.val, 0]) S8x1024.size chunk_inb (fun _ => rfl)
    (fun d a h => chunk_off d a h) rfl chunk_size rfl
theorem slot_disjoint (s s' : Fin 31) (h : s ≠ s') : Disjoint (slotR s).set (slotR s').set :=
  lead_disjoint (s := S31x8x1024) (NB := 31) (0 : Fin 3) 1 (fun s => ![s.val, 0, 0]) S1x8x1024.size slot_inb (fun s => (Nat.one_mul s.val).symm) rfl s s' h
theorem slot_cover : Finset.univ.biUnion (fun s : Fin 31 => (slotR s).set) = Finset.univ :=
  lead_cover (s := S31x8x1024) (NB := 31) (0 : Fin 3) 1 (fun s => ![s.val, 0, 0]) S1x8x1024.size slot_inb (fun s => (Nat.one_mul s.val).symm)
    (fun s a h => slot_off s a h) rfl slot_size rfl

theorem acc_set (d : Dev nD) : (accV d).view.set = (chunkR d).set := View.set_slice_whole cc0_scratch0 (chunkR d)
theorem ag_set (d : Dev nD) : (agV d).view.set = (chunkR d).set := View.set_slice_whole cc0_scratch1 (chunkR d)
theorem slot_set (s : Fin 31) : (slotV s).view.set = (slotR s).set :=
  (View.set_reshape (v := (rsM.slice (slotR s) (fun _ => rfl)).view) _).trans (View.set_slice_whole cc0_scratch2 (slotR s))

theorem accW_eq (c : Dev nD) (f) : (accW c f : sProp 𝕄) = bigSep Finset.univ fun d => accPts c d f :=
  (pointsTo_blocks (ℓ := (c : Thread nD τ).loc cc0_scratch0) (fun d : Dev nD => (chunkR d).set) chunk_disjoint chunk_cover f).trans
    (bigSep_congr fun d _ => by unfold accPts; rw [acc_set])
theorem agW_eq (c : Dev nD) (f) : (agW c f : sProp 𝕄) = bigSep Finset.univ fun d => agPts c d fullShare f :=
  (pointsTo_blocks (ℓ := (c : Thread nD τ).loc cc0_scratch1) (fun d : Dev nD => (chunkR d).set) chunk_disjoint chunk_cover f).trans
    (bigSep_congr fun d _ => by unfold agPts; rw [ag_set])
theorem rsW_eq (c : Dev nD) (f) : (rsW c f : sProp 𝕄) = bigSep Finset.univ fun s => slotPts c s f :=
  (pointsTo_blocks (ℓ := (c : Thread nD τ).loc cc0_scratch2) (fun s : Fin 31 => (slotR s).set) slot_disjoint slot_cover f).trans
    (bigSep_congr fun s _ => by unfold slotPts; rw [slot_set])

/-! ## All devices: a device and its peers -/

def peerE (c : Dev nD) : Fin 31 ↪ Dev nD := ⟨peer c, fun j j' h => peer_inj c h⟩

theorem univ_peers (c : Dev nD) : (Finset.univ : Finset (Dev nD)) = insert c (Finset.univ.map (peerE c)) := by
  refine (Finset.eq_univ_iff_forall.mpr fun d => ?_).symm
  rw [Finset.mem_insert, Finset.mem_map]
  have h : ∀ c d : Dev nD, d = c ∨ ∃ j, peer c j = d := by decide +kernel
  exact (h c d).imp id fun ⟨j, hj⟩ => ⟨j, Finset.mem_univ j, hj⟩

/-- A family over the devices a predicate selects: the device's own member, if selected, and those of its peers. -/
theorem bigSep_peers (c : Dev nD) (p : Dev nD → Bool) (Φ : Dev nD → sProp 𝕄) :
    bigSep (Finset.univ.filter fun d => p d = true) Φ
      = iprop((if p c = true then Φ c else emp) ∗ bigSep (todo (fun j => p (peer c j)) 0) fun j => Φ (peer c j)) := by
  have ht : todo (fun j => p (peer c j)) 0 = Finset.univ.filter fun j => p (peer c j) = true :=
    Finset.filter_congr fun j _ => and_iff_left (Nat.zero_le _)
  rw [ht, univ_peers c, Finset.filter_insert, Finset.filter_map]
  have hn : c ∉ (Finset.univ.filter fun j => p (peer c j) = true).map (peerE c) := fun h => by
    obtain ⟨j, -, hj⟩ := Finset.mem_map.mp h
    exact peer_ne c j hj
  split
  · exact (bigSep_insert hn).trans (congrArg (fun X => iprop(Φ c ∗ X)) (bigSep_map (peerE c)))
  · refine (bigSep_map (peerE c)).trans ?_
    exact (Idealize.SL.BI.equiv_iff.mp Idealize.SL.BI.emp_sep).symm

theorem bigSep_peers_univ (c : Dev nD) (Φ : Dev nD → sProp 𝕄) :
    bigSep Finset.univ Φ = iprop(Φ c ∗ bigSep Finset.univ fun j => Φ (peer c j)) := by
  have h := bigSep_peers c (fun _ => true) Φ
  rw [if_pos rfl, Finset.filter_true_of_mem (fun _ _ => rfl)] at h
  rw [h]
  exact congrArg (fun S => iprop(Φ c ∗ bigSep S fun j => Φ (peer c j))) todo_every_zero

/-! ## Contents -/

theorem cast_elt {e : EltTy} {v : Elt F e} (h : Elt F e = Elt F e) : _root_.cast h v = v := rfl

/-- Storing the lower half leaves the partial product in the lower rows. -/
theorem lo_agree (m : (ℓ : Loc nD τ sig) → Buf (Elt F) ℓ) (c d : Dev nD) (hd : d.val < 16) (f : Vec F S256x1024 .bf16) (i : S256x1024.Idx)
    (hi : i ∈ (chunkR d).set) : (accM.access accRlo).write (Elt F) f (lowP m c) Finset.univ i = accAll m c i := by
  have h0 := (Rect.mem_set_unit.mp hi) 0
  have h1 : (i 0).val < 8 * d.val + 8 := h0.2
  have hlt : (i 0).val < 128 := by omega
  have he : (accM.access accRlo).emb (ix2 ⟨(i 0).val, hlt⟩ (i 1)) = i := by
    funext a; refine Fin.ext ?_; fin_cases a
    · show 0 + 1 * (i 0).val = (i 0).val; omega
    · show 0 + 1 * (i 1).val = (i 1).val; omega
  unfold accAll; rw [dif_pos hlt]
  exact (congrArg ((accM.access accRlo).write (Elt F) f (lowP m c) Finset.univ) he.symm).trans
    (View.write_emb_of_mem (v := accM.access accRlo) f (lowP m c) (Finset.mem_univ _))

/-- Storing the upper half leaves the partial product in the upper rows. -/
theorem hi_agree (m : (ℓ : Loc nD τ sig) → Buf (Elt F) ℓ) (c d : Dev nD) (hd : 16 ≤ d.val) (f : Vec F S256x1024 .bf16) (i : S256x1024.Idx)
    (hi : i ∈ (chunkR d).set) : (accM.access accRhi).write (Elt F) f (highP m c) Finset.univ i = accAll m c i := by
  have h0 := (Rect.mem_set_unit.mp hi) 0
  have h1 : 8 * d.val ≤ (i 0).val := h0.1
  have hlt : ¬ (i 0).val < 128 := by omega
  have hi0 : (i 0).val < 256 := (i 0).isLt
  have he : (accM.access accRhi).emb (ix2 ⟨(i 0).val - 128, by omega⟩ (i 1)) = i := by
    funext a; refine Fin.ext ?_; fin_cases a
    · show 128 + 1 * ((i 0).val - 128) = (i 0).val; omega
    · show 0 + 1 * (i 1).val = (i 1).val; omega
  unfold accAll; rw [dif_neg hlt]
  exact (congrArg ((accM.access accRhi).write (Elt F) f (highP m c) Finset.univ) he.symm).trans
    (View.write_emb_of_mem (v := accM.access accRhi) f (highP m c) (Finset.mem_univ _))

/-- Storing a device's reduced rows leaves the gathered result there. -/
theorem red_agree (m : (ℓ : Loc nD τ sig) → Buf (Elt F) ℓ) (d : Dev nD) (f : Vec F S256x1024 .bf16) (i : S256x1024.Idx)
    (hi : i ∈ (chunkR d).set) : (agM.access (chunkR d)).write (Elt F) f (redC m d) Finset.univ i = gath m i := by
  have h0 := (Rect.mem_set_unit.mp hi) 0
  have h1 : 8 * d.val ≤ (i 0).val := h0.1
  have h2 : (i 0).val < 8 * d.val + 8 := h0.2
  have he : (agM.access (chunkR d)).emb (ix2 ⟨(i 0).val % 8, Nat.mod_lt _ (by decide)⟩ (i 1)) = i := by
    funext a; refine Fin.ext ?_; fin_cases a
    · show 8 * d.val + 1 * ((i 0).val % 8) = (i 0).val; omega
    · show 0 + 1 * (i 1).val = (i 1).val; omega
  have hd : (⟨(i 0).val / 8, by have : (i 0).val < 256 := (i 0).isLt; show _ < 32; omega⟩ : Dev nD) = d := Fin.ext (by show (i 0).val / 8 = d.val; omega)
  have hg : gath m i = redC m d (ix2 ⟨(i 0).val % 8, Nat.mod_lt _ (by decide)⟩ (i 1)) := by unfold gath; rw [hd]
  rw [hg]
  exact (congrArg ((agM.access (chunkR d)).write (Elt F) f (redC m d) Finset.univ) he.symm).trans
    (View.write_emb_of_mem (v := agM.access (chunkR d)) f (redC m d) (Finset.mem_univ _))

/-! ## The two halves of the partial product -/

def lowD (d : Dev nD) : Bool := decide (d.val < 16)
def highD (d : Dev nD) : Bool := decide (16 ≤ d.val)

def accLow (c : Dev nD) (f : Buf (Elt F) ((c : Thread nD τ).loc cc0_scratch0)) : sProp 𝕄 :=
  bigSep (Finset.univ.filter fun d => lowD d = true) fun d => accPts c d f
def accHigh (c : Dev nD) (f : Buf (Elt F) ((c : Thread nD τ).loc cc0_scratch0)) : sProp 𝕄 :=
  bigSep (Finset.univ.filter fun d => highD d = true) fun d => accPts c d f

theorem highD_not (d : Dev nD) : (highD d = true) ↔ ¬ (lowD d = true) := by
  unfold highD lowD; rw [decide_eq_true_iff, decide_eq_true_iff]; omega

theorem split_lohi (X : Dev nD → sProp 𝕄) : bigSep Finset.univ X
    = iprop((bigSep (Finset.univ.filter fun d => lowD d = true) X) ∗ bigSep (Finset.univ.filter fun d => highD d = true) X) := by
  rw [show (Finset.univ.filter fun d => highD d = true) = Finset.univ.filter fun d => ¬ (lowD d = true) from
    Finset.filter_congr fun d _ => highD_not d]
  exact (bigSep_filter_split Finset.univ fun d => lowD d = true)

theorem acc_halves (c : Dev nD) (f) : (accW c f : sProp 𝕄) = iprop(accLow c f ∗ accHigh c f) :=
  (accW_eq c f).trans (split_lohi _)

/-- The elements of the upper half. -/
def highSet : Finset S256x1024.Idx := (Finset.univ.filter fun d : Dev nD => highD d = true).biUnion fun d => (chunkR d).set

theorem high_whole (c : Dev nD) (f) : (accHigh c f : sProp 𝕄) = (((c : Thread nD τ).loc cc0_scratch0) ↦[highSet]{fullShare} f) := by
  unfold accHigh highSet
  refine Eq.trans (bigSep_congr fun d _ => ?_)
    (pointsTo_biUnion (ℓ := (c : Thread nD τ).loc cc0_scratch0) _ (fun d : Dev nD => (chunkR d).set) fun t _ t' _ h => chunk_disjoint t t' h).symm
  unfold accPts; rw [acc_set]

theorem high_covers : (accM.access accRhi).set ⊆ highSet := by
  intro i hi
  rw [show (accM.access accRhi).set = accRhi.set from View.set_slice_whole cc0_scratch0 accRhi] at hi
  have h0 : 128 ≤ (i 0).val := ((Rect.mem_set_unit.mp hi) 0).1
  have hi0 : (i 0).val < 256 := (i 0).isLt
  unfold highSet
  refine Finset.mem_biUnion.mpr ⟨⟨(i 0).val / 8, by show _ < 32; omega⟩, ?_, ?_⟩
  · refine Finset.mem_filter.mpr ⟨Finset.mem_univ _, ?_⟩
    unfold highD; rw [decide_eq_true_iff]; show 16 ≤ (i 0).val / 8; omega
  · refine Rect.mem_set_unit.mpr fun a => ?_
    fin_cases a
    · show 8 * ((i 0).val / 8) ≤ (i 0).val ∧ (i 0).val < 8 * ((i 0).val / 8) + 8; omega
    · exact ⟨Nat.zero_le _, by show (i 1).val < 0 + 1024; have h : (i 1).val < 1024 := (i 1).isLt; omega⟩

theorem acc_congr (c d : Dev nD) {f g : Vec F S256x1024 .bf16} (h : ∀ i ∈ (chunkR d).set, f i = g i) : (accPts c d f : sProp 𝕄) = accPts c d g := by
  unfold accPts; rw [acc_set]
  exact pointsTo_congr (ℓ := (c : Thread nD τ).loc cc0_scratch0) h
theorem ag_congr (c d : Dev nD) (q : PosShare TreeShare) {f g : Vec F S256x1024 .bf16} (h : ∀ i ∈ (chunkR d).set, f i = g i) :
    (agPts c d q f : sProp 𝕄) = agPts c d q g := by
  unfold agPts; rw [ag_set]
  exact pointsTo_congr (ℓ := (c : Thread nD τ).loc cc0_scratch1) h

theorem low_stored (m : (ℓ : Loc nD τ sig) → Buf (Elt F) ℓ) (c : Dev nD) (f : Vec F S256x1024 .bf16) :
    (accLow c ((accM.access accRlo).write (Elt F) f (lowP m c) Finset.univ) : sProp 𝕄) = accLow c (accAll m c) := by
  unfold accLow
  exact bigSep_congr fun d hd => acc_congr c d fun i hi => lo_agree m c d (decide_eq_true_iff.mp (Finset.mem_filter.mp hd).2) f i hi
theorem high_stored (m : (ℓ : Loc nD τ sig) → Buf (Elt F) ℓ) (c : Dev nD) (f : Vec F S256x1024 .bf16) :
    (accHigh c ((accM.access accRhi).write (Elt F) f (highP m c) Finset.univ) : sProp 𝕄) = accHigh c (accAll m c) := by
  unfold accHigh
  exact bigSep_congr fun d hd => acc_congr c d fun i hi => hi_agree m c d (decide_eq_true_iff.mp (Finset.mem_filter.mp hd).2) f i hi

/-! ## Loads and stores as steps -/

section Steps
variable {α : Type} (m : (ℓ : Loc nD τ sig) → Buf (Elt F) ℓ) (K : Dev nD × Option (Fin 4 × Fin 31) → ℕ) (c : Dev nD)

theorem ret_intro {Q : α → sProp 𝕄} {A : sProp 𝕄} {a : α} (h : A ⊢ Q a) : A ⊢ wpc c (.ret a) Q := h.trans fupd_intro

/-- The five staged inputs. -/
def ins : sProp 𝕄 :=
  iprop((((c : Thread nD τ).loc cc0_stg0_0) ↦{fullShare} (xS m c)) ∗ (((c : Thread nD τ).loc cc0_stg1_0) ↦{fullShare} (wqS m c))
    ∗ (((c : Thread nD τ).loc cc0_stg2_0) ↦{fullShare} (woS m c)) ∗ (((c : Thread nD τ).loc cc0_stg3_0) ↦{fullShare} (wkS m c))
    ∗ (((c : Thread nD τ).loc cc0_stg4_0) ↦{fullShare} (wvS m c)))

theorem zero2 : (![0, 0] : Fin 2 → ℕ) = fun _ => 0 := by funext a; fin_cases a <;> rfl
theorem zero3 : (![0, 0, 0] : Fin 3 → ℕ) = fun _ => 0 := by funext a; fin_cases a <;> rfl

/-- A load from a memref whose whole buffer is among the staged inputs. -/
theorem ld_any {Q : α → sProp 𝕄} {S R : sProp 𝕄} {s : Shape} {e : EltTy} {b : Memref sig .tc .vmem s e} {f : Buf (Elt F) (b.view.loc (c : Thread nD τ))}
    (hb : (ins m c : sProp 𝕄) ⊢ iprop((b.view.loc (c : Thread nD τ) ↦{fullShare} f) ∗ ((b.view.loc (c : Thread nD τ) ↦{fullShare} f) -∗ ins m c)))
    {r : LoadRect s} {hl} {k : (r.shape.Idx → Elt F e) → CoreProg F α}
    (h : iprop(records m K ∗ S ∗ ins m c ∗ R) ⊢ wpc c (k (b.view.readAt (Elt F) r f)) Q) :
    iprop(records m K ∗ S ∗ ins m c ∗ R) ⊢ wpc c (.op (TpuEff.load b r hl) k) Q := by
  iintro ⟨#Hrec, HS, Hi, HR⟩
  ihave ⟨Hb, Hback⟩ := hb $$ Hi
  iapply (wp_load 𝒱₀ (c : Thread nD τ) none Set.univ (m := b) (r := r) (f := f) (Finset.subset_univ _)) $$ Hb; iintro Hb
  iapply h
  isplitr; · iexact Hrec
  isplitl [HS]; · iexact HS
  isplitr [HR]; · iapply Hback; iexact Hb
  iexact HR

/-- A load from any part of the staged `x`. -/
theorem ld_x {Q : α → sProp 𝕄} {S R : sProp 𝕄} {r : LoadRect S1x256x1024} {hl} {k : (r.shape.Idx → Elt F .f32) → CoreProg F α}
    (h : iprop(records m K ∗ S ∗ ins m c ∗ R) ⊢ wpc c (k (xM.view.readAt (Elt F) r (xS m c))) Q) :
    iprop(records m K ∗ S ∗ ins m c ∗ R) ⊢ wpc c (.op (TpuEff.load xM r hl) k) Q :=
  ld_any m K c (b := xM) (f := xS m c) (by unfold ins; iintro ⟨H0, H1, H2, H3, H4⟩; isplitl [H0]; · iexact H0
                                           iintro H0; iframe) h

/-- A load of all of the staged `x`. -/
theorem ld_xx {Q : α → sProp 𝕄} {S R : sProp 𝕄} {inb} {hl} {k : (S1x256x1024.Idx → Elt F .f32) → CoreProg F α}
    (h : iprop(records m K ∗ S ∗ ins m c ∗ R) ⊢ wpc c (k (xS m c)) Q) :
    iprop(records m K ∗ S ∗ ins m c ∗ R)
      ⊢ wpc c (.op (TpuEff.load xM (Rect.unit (s := S1x256x1024) ![0, 0, 0] S1x256x1024.size inb).toLoadRect hl) k) Q :=
  ld_x m K c (by rw [show xM.view.readAt (Elt F) _ (xS m c) = xS m c from Memref.readAt_unit_zero (Elt F) cc0_stg0_0 zero3 inb _]; exact h)

/-- Loads of the whole weights. -/
theorem ld_wq {Q : α → sProp 𝕄} {S R : sProp 𝕄} {inb} {hl} {k : (S1024x1024.Idx → Elt F .f32) → CoreProg F α}
    (h : iprop(records m K ∗ S ∗ ins m c ∗ R) ⊢ wpc c (k (wqS m c)) Q) :
    iprop(records m K ∗ S ∗ ins m c ∗ R)
      ⊢ wpc c (.op (TpuEff.load wqM (Rect.unit (s := S1024x1024) ![0, 0] S1024x1024.size inb).toLoadRect hl) k) Q :=
  ld_any m K c (b := wqM) (f := wqS m c) (by unfold ins; iintro ⟨H0, H1, H2, H3, H4⟩; isplitl [H1]; · iexact H1
                                             iintro H1; iframe)
    (by rw [show wqM.view.readAt (Elt F) _ (wqS m c) = wqS m c from Memref.readAt_unit_zero (Elt F) cc0_stg1_0 zero2 inb _]; exact h)
theorem ld_wo {Q : α → sProp 𝕄} {S R : sProp 𝕄} {inb} {hl} {k : (S1024x1024.Idx → Elt F .f32) → CoreProg F α}
    (h : iprop(records m K ∗ S ∗ ins m c ∗ R) ⊢ wpc c (k (woS m c)) Q) :
    iprop(records m K ∗ S ∗ ins m c ∗ R)
      ⊢ wpc c (.op (TpuEff.load woM (Rect.unit (s := S1024x1024) ![0, 0] S1024x1024.size inb).toLoadRect hl) k) Q :=
  ld_any m K c (b := woM) (f := woS m c) (by unfold ins; iintro ⟨H0, H1, H2, H3, H4⟩; isplitl [H2]; · iexact H2
                                             iintro H2; iframe)
    (by rw [show woM.view.readAt (Elt F) _ (woS m c) = woS m c from Memref.readAt_unit_zero (Elt F) cc0_stg2_0 zero2 inb _]; exact h)
theorem ld_wk {Q : α → sProp 𝕄} {S R : sProp 𝕄} {inb} {hl} {k : (S1024x1024.Idx → Elt F .f32) → CoreProg F α}
    (h : iprop(records m K ∗ S ∗ ins m c ∗ R) ⊢ wpc c (k (wkS m c)) Q) :
    iprop(records m K ∗ S ∗ ins m c ∗ R)
      ⊢ wpc c (.op (TpuEff.load wkM (Rect.unit (s := S1024x1024) ![0, 0] S1024x1024.size inb).toLoadRect hl) k) Q :=
  ld_any m K c (b := wkM) (f := wkS m c) (by unfold ins; iintro ⟨H0, H1, H2, H3, H4⟩; isplitl [H3]; · iexact H3
                                             iintro H3; iframe)
    (by rw [show wkM.view.readAt (Elt F) _ (wkS m c) = wkS m c from Memref.readAt_unit_zero (Elt F) cc0_stg3_0 zero2 inb _]; exact h)
theorem ld_wv {Q : α → sProp 𝕄} {S R : sProp 𝕄} {inb} {hl} {k : (S1024x1024.Idx → Elt F .f32) → CoreProg F α}
    (h : iprop(records m K ∗ S ∗ ins m c ∗ R) ⊢ wpc c (k (wvS m c)) Q) :
    iprop(records m K ∗ S ∗ ins m c ∗ R)
      ⊢ wpc c (.op (TpuEff.load wvM (Rect.unit (s := S1024x1024) ![0, 0] S1024x1024.size inb).toLoadRect hl) k) Q :=
  ld_any m K c (b := wvM) (f := wvS m c) (by unfold ins; iintro ⟨H0, H1, H2, H3, H4⟩; isplitl [H4]; · iexact H4
                                             iintro H4; iframe)
    (by rw [show wvM.view.readAt (Elt F) _ (wvS m c) = wvS m c from Memref.readAt_unit_zero (Elt F) cc0_stg4_0 zero2 inb _]; exact h)

/-- The lower half of the partial product: a load whose value is not used, then the store. -/
theorem step_store_lo {Q : α → sProp 𝕄} {R : sProp 𝕄} {w : S128x1024.Idx → Elt F .bf16} (hw : w = lowP m c) {hl hx hm} {k : PUnit → CoreProg F α}
    (h : iprop(records m K ∗ (accLow c (accAll m c) ∗ ∃ f, accHigh c f) ∗ R) ⊢ wpc c (k ⟨⟩) Q) :
    iprop(records m K ∗ (∃ f, accW c f) ∗ R)
      ⊢ wpc c (.op (TpuEff.load accM accRlo.toLoadRect hl) fun _ => .op (TpuEff.store accM accRlo w Finset.univ hx hm) k) Q := by
  subst hw
  iintro ⟨#Hrec, ⟨%f, Ha⟩, HR⟩
  iapply (wp_load 𝒱₀ (c : Thread nD τ) none Set.univ (m := accM) (r := accRlo.toLoadRect) (f := f) (Finset.subset_univ _)) $$ Ha; iintro Ha
  iapply (wp_store 𝒱₀ (c : Thread nD τ) none Set.univ (m := accM) (r := accRlo) (f := f) (S := Finset.univ) (Finset.subset_univ _)) $$ Ha; iintro Ha
  ihave Ha := (Entails.of_eq (acc_halves c ((accM.access accRlo).write (Elt F) f (lowP m c) Finset.univ))) $$ Ha
  icases Ha with ⟨Hlo, Hhi⟩
  iapply h
  isplitr; · iexact Hrec
  isplitr [HR]
  · isplitl [Hlo]
    · iapply (Entails.of_eq (low_stored m c f)); iexact Hlo
    · iexists _; iexact Hhi
  · iexact HR

/-- The upper half likewise. -/
theorem step_store_hi {Q : α → sProp 𝕄} {R : sProp 𝕄} {w : S128x1024.Idx → Elt F .bf16} (hw : w = highP m c) {hl hx hm} {k : PUnit → CoreProg F α}
    (h : iprop(records m K ∗ accHigh c (accAll m c) ∗ R) ⊢ wpc c (k ⟨⟩) Q) :
    iprop(records m K ∗ (∃ f, accHigh c f) ∗ R)
      ⊢ wpc c (.op (TpuEff.load accM accRhi.toLoadRect hl) fun _ => .op (TpuEff.store accM accRhi w Finset.univ hx hm) k) Q := by
  subst hw
  iintro ⟨#Hrec, ⟨%f, Ha⟩, HR⟩
  ihave Ha := (Entails.of_eq (high_whole c f)) $$ Ha
  iapply (wp_load 𝒱₀ (c : Thread nD τ) none Set.univ (m := accM) (r := accRhi.toLoadRect) (f := f) (S := highSet)
    ((View.set_slice accM.view accRhi).ge.trans high_covers)) $$ Ha; iintro Ha
  iapply (wp_store 𝒱₀ (c : Thread nD τ) none Set.univ (m := accM) (r := accRhi) (f := f) (S := highSet) high_covers) $$ Ha; iintro Ha
  ihave Ha := (Entails.of_eq (high_whole c ((accM.access accRhi).write (Elt F) f (highP m c) Finset.univ)).symm) $$ Ha
  iapply h
  isplitr; · iexact Hrec
  isplitr [HR]
  · iapply (Entails.of_eq (high_stored m c f)); iexact Ha
  · iexact HR

/-- The reduction: the device's own rows and what has landed are read, and the sum is stored in its rows of the result. -/
theorem step_reduce {Q : α → sProp 𝕄} {R : sProp 𝕄} {off : Fin 2 → ℕ} (hoff : off = ![8 * c.val, 0]) {inb inb' inb'' inbs} {hl hl' hl''} {hx : ∀ w, _} {hm}
    {k : PUnit → CoreProg F α}
    (h : iprop(records m K ∗ (accPts c c (accAll m c) ∗ rsW c (landed m c) ∗ agPts c c fullShare (gath m)) ∗ R) ⊢ wpc c (k ⟨⟩) Q) :
    iprop(records m K ∗ (accPts c c (accAll m c) ∗ rsW c (landed m c) ∗ ∃ f, agPts c c fullShare f) ∗ R)
      ⊢ wpc c (.op (TpuEff.load accM (Rect.unit (s := S256x1024) off S8x1024.size inb).toLoadRect hl) fun v =>
          .op (TpuEff.load rsM (Rect.unit (s := S31x8x1024) ![0, 0, 0] S31x8x1024.size inbs).toLoadRect hl') fun w =>
          .op (TpuEff.load agM (Rect.unit (s := S256x1024) off S8x1024.size inb').toLoadRect hl'') fun _ =>
          .op (TpuEff.store agM (Rect.unit (s := S256x1024) off S8x1024.size inb'') (k0_pay37 v w) Finset.univ (hx w) hm) k) Q := by
  subst hoff
  iintro ⟨#Hrec, ⟨Ha, Hs, ⟨%f, Hg⟩⟩, HR⟩
  unfold accPts agPts at *
  iapply (wp_load 𝒱₀ (c : Thread nD τ) none Set.univ (m := accM) (r := (chunkR c).toLoadRect) (f := accAll m c) (S := (accV c).view.set)
    ((View.set_slice accM.view (chunkR c)).ge)) $$ Ha; iintro Ha
  iapply (wp_load 𝒱₀ (c : Thread nD τ) none Set.univ (m := rsM) (f := landed m c) (Finset.subset_univ _)) $$ Hs; iintro Hs
  rw [show rsM.view.readAt (Elt F) _ (landed m c) = landed m c from Memref.readAt_unit_zero (Elt F) cc0_scratch2 zero3 inbs _]
  iapply (wp_load 𝒱₀ (c : Thread nD τ) none Set.univ (m := agM) (r := (chunkR c).toLoadRect) (f := f) (S := (agV c).view.set)
    ((View.set_slice agM.view (chunkR c)).ge)) $$ Hg; iintro Hg
  iapply (wp_store 𝒱₀ (c : Thread nD τ) none Set.univ (m := agM) (r := chunkR c) (f := f) (S := (agV c).view.set) (Finset.Subset.refl _)) $$ Hg; iintro Hg
  iapply h
  isplitr; · iexact Hrec
  isplitr [HR]
  · isplitl [Ha]; · iexact Ha
    isplitl [Hs]; · iexact Hs
    have hg := Entails.of_eq (ag_congr (F := F) c c fullShare (fun i hi => red_agree m c f i hi))
    unfold agPts at hg
    iapply hg; iexact Hg
  · iexact HR

/-- The last step: the gathered result is read and stored, widened, in the output. -/
theorem step_out {Q : α → sProp 𝕄} {R : sProp 𝕄} {inb inbo inbo'} {hl hl'} {hx : ∀ w, _} {hm} {k : PUnit → CoreProg F α}
    (h : iprop(records m K ∗ (agW c (gath m) ∗ (((c : Thread nD τ).loc cc0_stg5_0) ↦{fullShare} (outC m))) ∗ R) ⊢ wpc c (k ⟨⟩) Q) :
    iprop(records m K ∗ (agW c (gath m) ∗ ∃ f, ((c : Thread nD τ).loc cc0_stg5_0) ↦{fullShare} f) ∗ R)
      ⊢ wpc c (.op (TpuEff.load agM (Rect.unit (s := S256x1024) ![0, 0] S256x1024.size inb).toLoadRect hl) fun v =>
          .op (TpuEff.load oM (Rect.unit (s := S1x256x1024) ![0, 0, 0] S1x256x1024.size inbo).toLoadRect hl') fun _ =>
          .op (TpuEff.store oM (Rect.unit (s := S1x256x1024) ![0, 0, 0] S1x256x1024.size inbo') (k0_pay1 v) Finset.univ (hx v) hm) k) Q := by
  iintro ⟨#Hrec, ⟨Hg, ⟨%f, Ho⟩⟩, HR⟩
  iapply (wp_load 𝒱₀ (c : Thread nD τ) none Set.univ (m := agM) (f := gath m) (Finset.subset_univ _)) $$ Hg; iintro Hg
  rw [show agM.view.readAt (Elt F) _ (gath m) = gath m from Memref.readAt_unit_zero (Elt F) cc0_scratch1 zero2 inb _]
  iapply (wp_load 𝒱₀ (c : Thread nD τ) none Set.univ (m := oM) (f := f) (Finset.subset_univ _)) $$ Ho; iintro Ho
  iapply (wp_store 𝒱₀ (c : Thread nD τ) none Set.univ (m := oM) (r := Rect.unit (s := S1x256x1024) ![0, 0, 0] S1x256x1024.size inbo') (f := f) (S := Finset.univ) (Finset.subset_univ _)) $$ Ho; iintro Ho
  rw [show (oM.access (Rect.unit (s := S1x256x1024) ![0, 0, 0] S1x256x1024.size inbo')).write (Elt F) f (k0_pay1 (gath m)) Finset.univ = outC m from
    Memref.write_access_unit_zero_univ (Elt F) cc0_stg5_0 zero3 inbo' _ _]
  iapply h
  isplitr; · iexact Hrec
  isplitr [HR]
  · isplitl [Hg]; · iexact Hg
    iexact Ho
  · iexact HR

end Steps

end Cert.Mha

end
-- ==== Proof.Phases.lean ====
/-
What a device holds between the phases of the body, and how one phase's outcome is dealt out to the next.
-/
module

public import proofs.«01_k».proof.Proof.Pieces

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Groups of resources -/

/-- The tokens of the signals, of the sends of the reduce-scatter, of those of the all-gather. -/
def sigTok : sProp 𝕄 := bigSep Finset.univ fun j => dutyTok ER (barCell (peer c j)) 0 j
def rsDuty (j : Fin 31) : sProp 𝕄 := iprop(dutyTok ER (cell 0 c j) 0 0 ∗ dutyTok ER (cell 1 (peer c j) (rev j)) 0 0)
def agDuty (j : Fin 31) : sProp 𝕄 := iprop(dutyTok ER (cell 2 c j) 0 0 ∗ dutyTok ER (cell 3 (peer c j) (rev j)) 0 0)
def rsTok : sProp 𝕄 := bigSep Finset.univ fun j => rsDuty (F := F) c j
def agTok : sProp 𝕄 := bigSep Finset.univ fun j => agDuty (F := F) c j
/-- The positions, credits and final values of a family's semaphores. -/
def posOf (k : Fin 4) : sProp 𝕄 := bigSep Finset.univ fun j => atPos ER (cell k c j) 0 ∅ 0
def credOf (k : Fin 4) : sProp 𝕄 := bigSep Finset.univ fun j => cred (tallyAt (cell k c j) () N)
def zeros (k : Fin 4) : sProp 𝕄 := bigSep Finset.univ fun j => semVal (cell k c j) 0
def barAt : sProp 𝕄 := iprop(atPos ER (barCell c) 0 ∅ 0 ∗ cred (tallyAt (barCell c) () 31))
/-- The output's staging buffer, whatever it holds. -/
def outAny : sProp 𝕄 := iprop(∃ f, ((c : Thread nD τ).loc cc0_stg5_0) ↦{fullShare} f)
def outIs : sProp 𝕄 := ((c : Thread nD τ).loc cc0_stg5_0) ↦{fullShare} (outC m)
/-- The device's own rows of the gathered result, whatever they hold. -/
def agOwn : sProp 𝕄 := iprop(∃ f, agPts (F := F) c c fullShare f)
/-- What the peers lend: the device's rows of their gathered results. -/
def agIn : sProp 𝕄 := bigSep Finset.univ fun j => iprop(∃ f, agPts (F := F) (peer c j) c fullShare f)
def agFrom : sProp 𝕄 := bigSep Finset.univ fun j => agPts c (peer c j) fullShare (gath m)
def agKept : sProp 𝕄 := agPts c c (Transfers.shareDrop fullShare 31) (gath m)
def zeroBar : sProp 𝕄 := semVal (barCell c) 0

/-- What is left to owe after the signals, after the sends of the lower half, after those of the upper. -/
abbrev O₃ : CellTallies nD τ sig Unit := dueOf (agT c) every 0 + 0
abbrev O₂ : CellTallies nD τ sig Unit := dueOf (rsT c) (high c) 0 + O₃ c
abbrev O₁ : CellTallies nD τ sig Unit := dueOf (rsT c) (low c) 0 + O₂ c
abbrev O₀ : CellTallies nD τ sig Unit := dueOf (barT c) every 0 + O₁ c

/-- What no phase before the reduction touches. -/
def rest1 : sProp 𝕄 := iprop(agTok c ∗ posOf c 0 ∗ posOf c 1 ∗ posOf c 2 ∗ posOf c 3 ∗ credOf c 1 ∗ credOf c 3 ∗ outAny c)
def rest2 : sProp 𝕄 := iprop(agTok c ∗ posOf c 0 ∗ posOf c 2 ∗ posOf c 3 ∗ credOf c 3 ∗ outAny c)
def rest3 : sProp 𝕄 := iprop(posOf c 0 ∗ posOf c 2 ∗ posOf c 3 ∗ credOf c 3 ∗ outAny c)

/-- The device's own rows of its partial product, held if they are among the lower (upper) half. -/
def ownLo : sProp 𝕄 := if lowD c = true then accPts c c (accAll m c) else iprop(emp)
def ownHi : sProp 𝕄 := if highD c = true then accPts c c (accAll m c) else iprop(emp)
def accOwn : sProp 𝕄 := accPts c c (accAll m c)
/-- What the sends of the upper half need besides its rows. -/
def hiNeeds : sProp 𝕄 := bigSep (todo (high c) 0) fun j => iprop(rsDuty (F := F) c j ∗ ∃ f, slotPts (F := F) (peer c j) (rev j) f)
def loSent : sProp 𝕄 := bigSep (done (low c) 31) fun j => cred (tallyAt (cell 0 c j) () N)

/-! ## The phases -/

def A₀ : sProp 𝕄 := iprop(sigTok c ∗ rsTok c ∗ barAt c ∗ rest1 c ∗ due c (O₀ c) ∗ (∃ f, accW c f) ∗ (∃ f, agW c f) ∗ (∃ f, rsW c f))
def R₁ : sProp 𝕄 := iprop(barAt c ∗ (∃ f, accW c f) ∗ rsTok c ∗ agOwn c ∗ rest1 c)
def R₂ : sProp 𝕄 := iprop(barAt c ∗ due c (O₁ c) ∗ rsTok c ∗ agOwn c ∗ rest1 c)
def R₃ : sProp 𝕄 := iprop((accLow c (accAll m c) ∗ ∃ f, accHigh c f) ∗ rsTok c ∗ agOwn c ∗ rest1 c)
def R₄ : sProp 𝕄 := iprop((∃ f, accHigh c f) ∗ ownLo m c ∗ hiNeeds c ∗ agIn c ∗ zeroBar c ∗ agOwn c ∗ rest1 c)
def R₅ : sProp 𝕄 := iprop(rsSt m c (low c) 31 (O₂ c) ∗ ownLo m c ∗ hiNeeds c ∗ agIn c ∗ zeroBar c ∗ agOwn c ∗ rest1 c)
def R₆ : sProp 𝕄 := iprop(ownLo m c ∗ ownHi m c ∗ loSent c ∗ agIn c ∗ zeroBar c ∗ agOwn c ∗ rest1 c)
def R₇ : sProp 𝕄 := iprop(accOwn m c ∗ credOf c 0 ∗ agIn c ∗ zeroBar c ∗ agOwn c ∗ rest2 c)
def R₈ : sProp 𝕄 := iprop(zeros c 1 ∗ due c (O₃ c) ∗ credOf c 0 ∗ agIn c ∗ zeroBar c ∗ rest2 c)
def R₉ : sProp 𝕄 := iprop(accOwn m c ∗ rsW c (landed m c) ∗ agKept m c ∗ zeros c 1 ∗ credOf c 0 ∗ zeroBar c ∗ rest3 c)
def R₁₀ : sProp 𝕄 := iprop(accOwn m c ∗ rsW c (landed m c) ∗ agKept m c ∗ zeros c 1 ∗ credOf c 0 ∗ credOf c 2 ∗ zeroBar c ∗ posOf c 0 ∗ posOf c 2 ∗ outAny c)
def R₁₁ : sProp 𝕄 := iprop(agFrom m c ∗ zeros c 3 ∗ accOwn m c ∗ rsW c (landed m c) ∗ agKept m c ∗ zeros c 1 ∗ credOf c 2 ∗ zeroBar c ∗ posOf c 2 ∗ outAny c)
def R₁₂ : sProp 𝕄 := iprop(zeros c 0 ∗ accW c (accAll m c) ∗ agFrom m c ∗ zeros c 3 ∗ rsW c (landed m c) ∗ agKept m c ∗ zeros c 1 ∗ zeroBar c ∗ outAny c)
def R₁₃ : sProp 𝕄 := iprop(zeros c 0 ∗ zeros c 1 ∗ zeros c 2 ∗ zeros c 3 ∗ zeroBar c ∗ accW c (accAll m c) ∗ rsW c (landed m c) ∗ due c 0)

/-! ## From one to the next -/

theorem mono_any {I : Type} [DecidableEq I] (s : Finset I) {Φ Ψ : I → sProp 𝕄} (h : ∀ j, Φ j ⊢ Ψ j) : bigSep s Φ ⊢ bigSep s Ψ :=
  show _ ⊢ _ from bigSep_mono fun j _ => h j

theorem done_all (b : Fin 31 → Bool) : done b 31 = todo b 0 :=
  Finset.filter_congr fun j _ => and_congr_right fun _ => ⟨fun _ => Nat.zero_le _, fun _ => j.isLt⟩

theorem low_eq : low c = fun j => lowD (peer c j) := funext fun j => by
  unfold low lowD; rw [peer_val, Nat.add_assoc]
theorem high_eq : high c = fun j => highD (peer c j) := funext fun j => by
  unfold high highD; rw [peer_val, Nat.add_assoc]

/-- The transfers of the lower and of the upper half are all the transfers. -/
theorem split31 (X : Fin 31 → sProp 𝕄) : bigSep Finset.univ X = iprop(bigSep (todo (low c) 0) X ∗ bigSep (todo (high c) 0) X) := by
  rw [show todo (low c) 0 = Finset.univ.filter fun j => low c j = true from Finset.filter_congr fun j _ => and_iff_left (Nat.zero_le _),
    show todo (high c) 0 = Finset.univ.filter fun j => ¬ (low c j = true) from Finset.filter_congr fun j _ => by
      rw [low_eq, high_eq, highD_not]; exact and_iff_left (Nat.zero_le _)]
  exact bigSep_filter_split Finset.univ fun j => low c j = true

theorem acc_low : (accLow c (accAll m c) : sProp 𝕄) = iprop(ownLo m c ∗ bigSep (todo (low c) 0) fun j => accPts c (peer c j) (accAll m c)) := by
  unfold accLow ownLo; rw [bigSep_peers c lowD, low_eq]
theorem acc_high : (accHigh c (accAll m c) : sProp 𝕄) = iprop(ownHi m c ∗ bigSep (todo (high c) 0) fun j => accPts c (peer c j) (accAll m c)) := by
  unfold accHigh ownHi; rw [bigSep_peers c highD, high_eq]

theorem own_join : (iprop(ownLo m c ∗ ownHi m c) : sProp 𝕄) ⊢ accOwn m c := by
  unfold ownLo ownHi accOwn
  by_cases h : lowD c = true
  · rw [if_pos h, if_neg fun h' => (highD_not c).mp h' h]
    iintro ⟨H, -⟩; iexact H
  · rw [if_neg h, if_pos ((highD_not c).mpr h)]
    iintro ⟨-, H⟩; iexact H

theorem pay1 (j : Fin 31) : (dmaPay m 1 c j : sProp 𝕄) = slotPts c j (landed m c) := rfl
theorem pay0 (j : Fin 31) : (dmaPay m 0 c j : sProp 𝕄) = accPts c (peer c j) (accAll m c) := rfl
theorem pay2 (j : Fin 31) : (dmaPay m 2 c j : sProp 𝕄) = agPts c c (lend j) (gath m) := rfl
theorem pay3 (j : Fin 31) : (dmaPay m 3 c j : sProp 𝕄) = agPts c (peer c j) fullShare (gath m) := rfl

theorem wait_start (f : Fin 4) (O : CellTallies nD τ sig Unit) : iprop(posOf c f ∗ credOf c f ∗ due c O) ⊢ waitSt m c f 0 O := by
  unfold posOf credOf waitSt
  rw [todo_every_zero, done_zero, bigSep_empty, bigSep_sep']
  iintro ⟨H1, H2, H3⟩
  isplitl [H1 H2]; · iframe
  isplitr; · iempintro
  iexact H3
theorem wait_end (f : Fin 4) (O : CellTallies nD τ sig Unit) :
    waitSt m c f 31 O ⊢ iprop(zeros c f ∗ (bigSep Finset.univ fun j => dmaPay m f c j) ∗ due c O) := by
  unfold zeros waitSt
  rw [todo_end, bigSep_empty, done_every_end, bigSep_sep']
  iintro ⟨-, ⟨H1, H2⟩, H3⟩
  iframe

theorem bar_ag (c : Dev nD) : (iprop(∃ f, agW c f) : sProp 𝕄)
    ⊢ iprop(agOwn c ∗ bigSep Finset.univ fun j => iprop(∃ f, agPts (F := F) c (peer c j) fullShare f)) := by
  iintro ⟨%f, H⟩
  ihave H := (Entails.of_eq ((agW_eq c f).trans (bigSep_peers_univ c fun d => agPts c d fullShare f))) $$ H
  icases H with ⟨H0, H1⟩
  isplitl [H0]; · unfold agOwn; iexists f; iexact H0
  iapply (mono_any Finset.univ (Φ := fun j => agPts (F := F) c (peer c j) fullShare f) fun j => by iintro H; iexists f; iexact H)
  iexact H1

theorem conv0 : (A₀ c : sProp 𝕄) ⊢ iprop(sigSt c 0 (O₁ c) ∗ R₁ c) := by
  unfold A₀ R₁ sigSt sigTok
  rw [todo_every_zero]
  iintro ⟨Ht, Hrs, Hb, Hr, Ho, Ha, Hg, ⟨%f, Hs⟩⟩
  ihave Hg := (bar_ag c) $$ Hg
  icases Hg with ⟨Hown, Hg⟩
  ihave Hs := (Entails.of_eq (rsW_eq c f)) $$ Hs
  ihave Hs := (mono_any Finset.univ (Φ := fun j => slotPts (F := F) c j f) (Ψ := fun j => iprop(∃ f, slotPts (F := F) c j f))
    fun j => by iintro H; iexists f; iexact H) $$ Hs
  isplitl [Ht Hs Hg Ho]
  · isplitr [Ho]
    · unfold sigRes
      rw [bigSep_sep', bigSep_sep']
      iframe
    · iexact Ho
  · iframe

theorem conv1 : (iprop(sigSt c 31 (O₁ c) ∗ R₁ c) : sProp 𝕄) ⊢ iprop((∃ f, accW c f) ∗ R₂ c) := by
  unfold sigSt R₁ R₂
  rw [dueOf_end, zero_add]
  iintro ⟨⟨-, Ho⟩, Hb, Ha, Ht, Hg, Hr⟩
  iframe

theorem conv2 : (iprop((accLow c (accAll m c) ∗ ∃ f, accHigh c f) ∗ R₂ c) : sProp 𝕄)
    ⊢ iprop((atPos ER (barCell c) 0 ∅ 0 ∗ cred (tallyAt (barCell c) () 31) ∗ due c (O₁ c)) ∗ R₃ m c) := by
  unfold R₂ R₃ barAt
  iintro ⟨H, ⟨Hp, Hc⟩, Ho, Ht, Hg, Hr⟩
  iframe

theorem conv3 : (iprop((barGot c ∗ semVal (barCell c) 0 ∗ due c (O₁ c)) ∗ R₃ m c) : sProp 𝕄) ⊢ iprop(rsSt m c (low c) 0 (O₂ c) ∗ R₄ m c) := by
  unfold R₃ R₄ barGot rsTok hiNeeds rsSt agIn zeroBar
  rw [acc_low, done_zero, bigSep_empty]
  iintro ⟨⟨⟨Hs, Hi⟩, Hz, Ho⟩, ⟨⟨Hown, Hlow⟩, Hhigh⟩, Ht, Hg, Hr⟩
  ihave Ht := (Entails.of_eq (split31 c fun j => rsDuty (F := F) c j)) $$ Ht
  ihave Hs := (Entails.of_eq (split31 c fun j => iprop(∃ f, slotPts (F := F) (peer c j) (rev j) f))) $$ Hs
  icases Ht with ⟨Htl, Hth⟩
  icases Hs with ⟨Hsl, Hsh⟩
  isplitl [Hlow Htl Hsl Ho]
  · isplitl [Hlow Htl Hsl]
    · iapply (mono_any (todo (low c) 0) (Φ := fun j => iprop(accPts c (peer c j) (accAll m c) ∗ rsDuty (F := F) c j ∗ ∃ f, slotPts (F := F) (peer c j) (rev j) f))
        (Ψ := rsRes m c) fun j => by unfold rsRes rsDuty; iintro ⟨H1, ⟨H2, H3⟩, H4⟩; iframe)
      rw [bigSep_sep', bigSep_sep']; iframe
    · isplitr; · iempintro
      iexact Ho
  · rw [bigSep_sep']; iframe

theorem conv4 : (iprop(rsSt m c (low c) 31 (O₂ c) ∗ R₄ m c) : sProp 𝕄) ⊢ iprop((∃ f, accHigh c f) ∗ R₅ m c) := by
  unfold R₄ R₅
  iintro ⟨H, Ha, Hr⟩
  iframe

theorem conv5 : (iprop(accHigh c (accAll m c) ∗ R₅ m c) : sProp 𝕄) ⊢ iprop(rsSt m c (high c) 0 (O₃ c) ∗ R₆ m c) := by
  unfold R₅ R₆ hiNeeds loSent rsSt
  rw [acc_high, done_zero, bigSep_empty, dueOf_end, zero_add]
  iintro ⟨⟨Hown, Hacc⟩, ⟨-, Hc, Ho⟩, Hlo, Hn, Hr⟩
  isplitl [Hacc Hn Ho]
  · isplitl [Hacc Hn]
    · iapply (mono_any (todo (high c) 0) (Φ := fun j => iprop(accPts c (peer c j) (accAll m c) ∗ rsDuty (F := F) c j ∗ ∃ f, slotPts (F := F) (peer c j) (rev j) f))
        (Ψ := rsRes m c) fun j => by unfold rsRes rsDuty; iintro ⟨H1, ⟨H2, H3⟩, H4⟩; iframe)
      rw [bigSep_sep' (Φ := fun j => accPts c (peer c j) (accAll m c))]; iframe
    · isplitr; · iempintro
      iexact Ho
  · iframe

theorem conv6 : (iprop(rsSt m c (high c) 31 (O₃ c) ∗ R₆ m c) : sProp 𝕄) ⊢ iprop(waitSt m c 1 0 (O₃ c) ∗ R₇ m c) := by
  unfold R₆ R₇ loSent rsSt rest1 rest2
  rw [dueOf_end, zero_add, done_all, done_all]
  iintro ⟨⟨-, Hc, Ho⟩, Hlo, Hhi, Hc', Hi, Hz, Hg, Ht, Hp0, Hp1, Hp2, Hp3, Hc1, Hc3, Hout⟩
  isplitl [Hp1 Hc1 Ho]
  · iapply (wait_start m c 1 (O₃ c)); iframe
  isplitl [Hlo Hhi]
  · iapply (own_join m c); iframe
  isplitl [Hc Hc']
  · unfold credOf; rw [split31 c]; iframe
  iframe

theorem conv7 : (iprop(waitSt m c 1 31 (O₃ c) ∗ R₇ m c) : sProp 𝕄)
    ⊢ iprop((accPts c c (accAll m c) ∗ rsW c (landed m c) ∗ ∃ f, agPts c c fullShare f) ∗ R₈ c) := by
  unfold R₇ R₈ accOwn agOwn
  iintro ⟨H, Ha, Hc, Hi, Hz, Hg, Hr⟩
  ihave H := (wait_end m c 1 (O₃ c)) $$ H
  icases H with ⟨Hz1, Hp, Ho⟩
  isplitl [Ha Hp Hg]
  · isplitl [Ha]; · iexact Ha
    isplitl [Hp]; · rw [rsW_eq]; simp only [pay1]; iexact Hp
    iexact Hg
  iframe

theorem conv8 : (iprop((accPts c c (accAll m c) ∗ rsW c (landed m c) ∗ agPts c c fullShare (gath m)) ∗ R₈ c) : sProp 𝕄) ⊢ iprop(agSt m c 0 0 ∗ R₉ m c) := by
  unfold R₈ R₉ agSt rest2 rest3 agTok agIn accOwn agKept
  rw [todo_every_zero, done_zero, bigSep_empty]
  iintro ⟨⟨Ha, Hs, Hg⟩, Hz1, Ho, Hc, Hi, Hz, Ht, Hr⟩
  ihave Hg := (show agPts c c fullShare (gath m) ⊢ iprop(agPts c c (Transfers.shareDrop fullShare 31) (gath m) ∗ bigSep Finset.univ fun j => agPts c c (lend j) (gath m))
    from Transfers.pointsTo_toks_split fullShare 31) $$ Hg
  icases Hg with ⟨Hk, Hg⟩
  isplitl [Hg Ht Hi Ho]
  · isplitl [Hg Ht Hi]
    · iapply (mono_any Finset.univ (Φ := fun j => iprop(agPts c c (lend j) (gath m) ∗ agDuty (F := F) c j ∗ ∃ f, agPts (F := F) (peer c j) c fullShare f))
        (Ψ := agRes m c) fun j => by unfold agRes agDuty; iintro ⟨H1, ⟨H2, H3⟩, H4⟩; iframe)
      rw [bigSep_sep', bigSep_sep']; iframe
    · isplitr; · iempintro
      iexact Ho
  iframe

theorem conv9 : (iprop(agSt m c 31 0 ∗ R₉ m c) : sProp 𝕄) ⊢ iprop(waitSt m c 3 0 0 ∗ R₁₀ m c) := by
  unfold R₉ R₁₀ agSt rest3
  rw [dueOf_end, zero_add, done_every_end]
  iintro ⟨⟨-, Hc2, Ho⟩, Ha, Hs, Hk, Hz1, Hc0, Hz, Hp0, Hp2, Hp3, Hc3, Hout⟩
  isplitl [Hp3 Hc3 Ho]
  · iapply (wait_start m c 3 0); iframe
  unfold credOf; iframe

theorem conv10 : (iprop(waitSt m c 3 31 0 ∗ R₁₀ m c) : sProp 𝕄) ⊢ iprop(waitSt m c 0 0 0 ∗ R₁₁ m c) := by
  unfold R₁₀ R₁₁ agFrom
  iintro ⟨H, Ha, Hs, Hk, Hz1, Hc0, Hc2, Hz, Hp0, Hp2, Hout⟩
  ihave H := (wait_end m c 3 0) $$ H
  icases H with ⟨Hz3, Hp, Ho⟩
  isplitl [Hp0 Hc0 Ho]
  · iapply (wait_start m c 0 0); iframe
  isplitl [Hp]; · simp only [pay3]; iexact Hp
  iframe

theorem conv11 : (iprop(waitSt m c 0 31 0 ∗ R₁₁ m c) : sProp 𝕄) ⊢ iprop(waitSt m c 2 0 0 ∗ R₁₂ m c) := by
  unfold R₁₁ R₁₂ accOwn
  iintro ⟨H, Hf, Hz3, Ha, Hs, Hk, Hz1, Hc2, Hz, Hp2, Hout⟩
  ihave H := (wait_end m c 0 0) $$ H
  icases H with ⟨Hz0, Hp, Ho⟩
  isplitl [Hp2 Hc2 Ho]
  · iapply (wait_start m c 2 0); iframe
  isplitl [Hz0]; · iexact Hz0
  isplitl [Hp Ha]; · rw [accW_eq, bigSep_peers_univ c]; simp only [pay0]; iframe
  iframe

theorem conv12 : (iprop(waitSt m c 2 31 0 ∗ R₁₂ m c) : sProp 𝕄)
    ⊢ iprop((agW c (gath m) ∗ ∃ f, ((c : Thread nD τ).loc cc0_stg5_0) ↦{fullShare} f) ∗ R₁₃ m c) := by
  unfold R₁₂ R₁₃ outAny agKept agFrom
  iintro ⟨H, Hz0, Ha, Hf, Hz3, Hs, Hk, Hz1, Hz, Hout⟩
  ihave H := (wait_end m c 2 0) $$ H
  icases H with ⟨Hz2, Hp, Ho⟩
  ihave Hg := (show iprop(agPts c c (Transfers.shareDrop fullShare 31) (gath m) ∗ bigSep Finset.univ fun j => agPts c c (lend j) (gath m)) ⊢ agPts c c fullShare (gath m)
    from Transfers.pointsTo_toks_join fullShare 31) $$ [Hk Hp]
  · isplitl [Hk]; · iexact Hk
    simp only [pay2]; iexact Hp
  isplitl [Hg Hf Hout]
  · isplitl [Hg Hf]
    · rw [agW_eq, bigSep_peers_univ c]; iframe
    · iexact Hout
  iframe

end Cert.Mha

end
-- ==== Proof.Body.lean ====
/-
One device's run of the kernel's body, phase by phase.
-/
module

public import proofs.«01_k».proof.Proof.Phases

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 31) → ℕ) (c : Dev nD) {α β : Type}

/-- Proceeding from one deal of the resources to the next. -/
theorem turn {Q : α → sProp 𝕄} {p : CoreProg F α} {S R S' R' : sProp 𝕄} (h : iprop(S ∗ R) ⊢ iprop(S' ∗ R'))
    (g : iprop(records m K ∗ S' ∗ ins m c ∗ R') ⊢ wpc c p Q) : iprop(records m K ∗ S ∗ ins m c ∗ R) ⊢ wpc c p Q := by
  iintro ⟨#Hrec, HS, Hi, HR⟩
  ihave ⟨HS, HR⟩ := h $$ [HS HR]; · iframe
  iapply g
  isplitr; · iexact Hrec
  iframe

/-- A program's first piece, whatever is to hold after it. -/
theorem piece {Q : α → sProp 𝕄} {A : sProp 𝕄} {p : CoreProg F β} {k : β → CoreProg F α}
    (h : ∀ Q' : β → sProp 𝕄, (∀ x, Q' x = wpc c (k x) Q) → A ⊢ wpc c p Q') : A ⊢ wpc c (p >>= k) Q := by
  rw [wpc, wp_bind]; exact h _ fun _ => rfl

theorem above_O₃ : Above 2 (O₃ c) := above_add (above_due (above_ag c) _ _) (above_zero _)
theorem above_O₁ : Above 1 (O₁ c) :=
  above_add (above_due (above_rs c) _ _) (above_add (above_due (above_rs c) _ _) ((above_O₃ c).mono (by decide)))

theorem lo_cond (i : ℕ) (hi : i < 31) {p : Prop} (h : p ↔ (c.val + (1 + i)) % 32 < 16) : p ↔ low c ⟨i, hi⟩ = true := by
  unfold low; rw [decide_eq_true_iff]; exact h
theorem hi_cond (i : ℕ) (hi : i < 31) {p : Prop} (h : p ↔ 16 ≤ (c.val + (1 + i)) % 32) : p ↔ high c ⟨i, hi⟩ = true := by
  unfold high; rw [decide_eq_true_iff]; exact h

/-- The operation is the device's send number `j` of the reduce-scatter. -/
def IsRs (j : Fin 31) (e : TpuEff nD τ sig (Elt F) Λ₀ .tc PUnit) : Prop :=
  ∃ (hsc : (slotV (rev j)).view.ref.isScScratch = false) (hs : (accV (peer c j)).view.WordExact) (hd : (slotV (rev j)).view.WordExact)
    (hsem : DmaTarget.Typed .vmem (.dma (dsem 1 (rev j))) (.remote (Dev.tc (peer c j) : Thread nD τ) (slotV (rev j)) (.dma (dsem 0 j)) hsc)),
    e = .enqueueDma (accV (peer c j)) (.remote (Dev.tc (peer c j) : Thread nD τ) (slotV (rev j)) (.dma (dsem 0 j)) hsc) (.dma (dsem 1 (rev j))) hs hd hsem

/-- Such a send, from its source, its target and its two semaphores. -/
theorem isRs_of (j : Fin 31) {src : Memref sig .tc .vmem S8x1024 .bf16} {dev : Dev nD} {dst : Memref sig .tc .vmem S8x1024 .bf16} {s₁ s₂ : DmaSem sig}
    {hsc : dst.view.ref.isScScratch = false} {hs : src.view.WordExact} {hd : dst.view.WordExact}
    {hsem : DmaTarget.Typed .vmem (.dma s₂) (.remote (Dev.tc dev : Thread nD τ) dst (.dma s₁) hsc)}
    (hsrc : src = accV (peer c j)) (hdev : dev = peer c j) (hdst : dst = slotV (rev j)) (hs₁ : s₁ = dsem 0 j) (hs₂ : s₂ = dsem 1 (rev j)) :
    IsRs c j (TpuEff.enqueueDma (Val := Elt F) (Λ := Λ₀) src (.remote (Dev.tc dev : Thread nD τ) dst (.dma s₁) hsc) (.dma s₂) hs hd hsem) := by
  subst hsrc hdev hdst hs₁ hs₂; exact ⟨_, _, _, _, rfl⟩

/-- A conditional send of the reduce-scatter. -/
theorem step_rs' {Q : α → sProp 𝕄} {R : sProp 𝕄} (b : Fin 31 → Bool) (i : ℕ) (hi : i < 31) {O : CellTallies nD τ sig Unit}
    {cond : Prop} [Decidable cond] {e : cond → TpuEff nD τ sig (Elt F) Λ₀ .tc PUnit} {kk : CoreProg F α} (hb : cond ↔ b ⟨i, hi⟩ = true)
    (he : ∀ h, IsRs c ⟨i, hi⟩ (e h)) (h : iprop(records m K ∗ rsSt m c b (i + 1) O ∗ R) ⊢ wpc c kk Q) :
    iprop(records m K ∗ rsSt m c b i O ∗ R) ⊢ wpc c (if h : cond then .op (e h) fun _ => kk else kk) Q := by
  choose p1 p2 p3 p4 hp using he
  have he : e = _ := funext hp
  subst he
  exact step_rs m K c b i hi hb (fun _ => rfl) (fun _ => rfl) (fun _ => rfl) (fun _ => rfl) (fun _ => rfl) h

/-- The operation made only if `p` holds, and then the rest. -/
@[irreducible] def sendThen (p : Prop) [Decidable p] (e : p → TpuEff nD τ sig (Elt F) Λ₀ .tc PUnit) (k : CoreProg F α) : CoreProg F α :=
  if h : p then .op (e h) (fun _ => k) else k

/-- A program that sends under a condition and then goes on, whichever way, in the same way. -/
theorem sendThen_eq (p : Prop) [Decidable p] (e : p → TpuEff nD τ sig (Elt F) Λ₀ .tc PUnit) (k : CoreProg F α) :
    (if h : p then Prog.op (e h) (fun _ => k) else k) = sendThen p e k := by
  unfold sendThen; rfl

/-- The step over a conditional send of the reduce-scatter. -/
theorem step_if {Q : α → sProp 𝕄} {R : sProp 𝕄} (b : Fin 31 → Bool) (i : ℕ) (hi : i < 31) {p : Prop} [Decidable p]
    {e : p → TpuEff nD τ sig (Elt F) Λ₀ .tc PUnit} {kk : CoreProg F α}
    {O : CellTallies nD τ sig Unit} (hb : p ↔ b ⟨i, hi⟩ = true) (he : ∀ h, IsRs c ⟨i, hi⟩ (e h))
    (h : iprop(records m K ∗ rsSt m c b (i + 1) O ∗ R) ⊢ wpc c kk Q) :
    iprop(records m K ∗ rsSt m c b i O ∗ R) ⊢ wpc c (sendThen p e kk) Q := by
  have := step_rs' m K c b i hi (kk := kk) hb he h
  rw [sendThen_eq] at this
  exact this

/-- The goal is at an operation; at a conditional send. -/
theorem at_op {Q : α → sProp 𝕄} {A : sProp 𝕄} {e : TpuEff nD τ sig (Elt F) Λ₀ .tc β} {k : β → CoreProg F α} (h : A ⊢ wpc c (.op e k) Q) :
    A ⊢ wpc c (.op e k) Q := h
theorem at_send {Q : α → sProp 𝕄} {A : sProp 𝕄} {p : Prop} [Decidable p] {e : p → TpuEff nD τ sig (Elt F) Λ₀ .tc PUnit} {k : CoreProg F α}
    (h : A ⊢ wpc c (sendThen p e k) Q) : A ⊢ wpc c (sendThen p e k) Q := h

set_option maxHeartbeats 2000000 in
/-- The body's first sixty pieces: the handshake, the attention of both halves of the rows with their sends, the sum of the parts
received, the sends of the finished rows, and the first seven of the waits for the sends to have left. -/
theorem body71 {Q : Dev nD → sProp 𝕄} (h : iprop(records m K ∗ waitSt m c 0 7 0 ∗ ins m c ∗ R₁₁ m c) ⊢ Q c) :
    iprop(records m K ∗ A₀ c ∗ ins m c ∗ iprop(emp)) ⊢ wpc c (k0_part71 xM (Memref.isWhole_whole _) wqM (Memref.isWhole_whole _) woM (Memref.isWhole_whole _)
      wkM (Memref.isWhole_whole _) wvM (Memref.isWhole_whole _) oM (Memref.isWhole_whole _) accM (Memref.isWhole_whole _) agM (Memref.isWhole_whole _)
      rsM (Memref.isWhole_whole _) cc0_scratch3 cc0_scratch4 cc0_scratch5 cc0_scratch6) Q := by
  rw [k0_part71_eq_skeleton]; unfold k0_part71_skel
  refine turn m K c (S' := sigSt c 0 (O₁ c)) (R' := R₁ c) (Laws.sep_emp.1.trans (conv0 c)) ?_
  iterate 6
    with_reducible refine piece c fun Q' hQ => ?_
    simp only [k0_part1_eq_skeleton, k0_part1_skel, k0_part2_eq_skeleton, k0_part2_skel, k0_part3_eq_skeleton, k0_part3_skel, k0_part4_eq_skeleton,
      k0_part4_skel, k0_part5_eq_skeleton, k0_part5_skel, k0_part6_eq_skeleton, k0_part6_skel, semSignalWord, semWaitWord, Prog.lift, Prog.bind_op,
      Prog.bind_ret, Prog.pure_eq_ret, wp_deviceId, dev_sig c]
    repeat
      with_reducible refine at_op c ?_
      refine step_sig m K c _ (by decide) (peer_of c _ _ _ _ rfl) rfl rfl ?_
    refine ret_intro c ?_
    rw [hQ]
    try dsimp only
  with_reducible refine piece c fun Q' hQ => ?_
  simp only [k0_part7_eq_skeleton, k0_part7_skel, semSignalWord, semWaitWord, Prog.lift, Prog.bind_op, Prog.bind_ret, Prog.pure_eq_ret, dev_sig c]
  iterate 2 refine step_sig m K c _ (by decide) (peer_of c _ _ _ _ rfl) rfl rfl ?_
  refine ld_xx m K c ?_
  refine ld_wk m K c ?_
  refine ld_xx m K c ?_
  refine ld_wv m K c ?_
  refine ret_intro c ?_
  rw [hQ]
  try dsimp only
  iterate 3
    with_reducible refine piece c fun Q' hQ => ?_
    simp only [k0_part8_eq_skeleton, k0_part8_skel, k0_part9_eq_skeleton, k0_part9_skel, k0_part10_eq_skeleton, k0_part10_skel, semSignalWord,
      semWaitWord, Prog.lift, Prog.bind_op, Prog.bind_ret, Prog.pure_eq_ret]
    refine ret_intro c ?_
    rw [hQ]
    try dsimp only
  with_reducible refine piece c fun Q' hQ => ?_
  simp only [k0_part11_eq_skeleton, k0_part11_skel, semSignalWord, semWaitWord, Prog.lift, Prog.bind_op, Prog.bind_ret, Prog.pure_eq_ret]
  refine ld_x m K c ?_
  refine ret_intro c ?_
  rw [hQ]
  try dsimp only
  with_reducible refine piece c fun Q' hQ => ?_
  simp only [k0_part12_eq_skeleton, k0_part12_skel, semSignalWord, semWaitWord, Prog.lift, Prog.bind_op, Prog.bind_ret, Prog.pure_eq_ret]
  refine ld_wq m K c ?_
  refine ret_intro c ?_
  rw [hQ]
  try dsimp only
  iterate 2
    with_reducible refine piece c fun Q' hQ => ?_
    simp only [k0_part13_eq_skeleton, k0_part13_skel, k0_part14_eq_skeleton, k0_part14_skel, semSignalWord, semWaitWord, Prog.lift, Prog.bind_op,
      Prog.bind_ret, Prog.pure_eq_ret]
    refine ret_intro c ?_
    rw [hQ]
    try dsimp only
  with_reducible refine piece c fun Q' hQ => ?_
  simp (zetaHave := false) only [k0_part15_eq_skeleton, k0_part15_skel, semSignalWord, semWaitWord, Prog.lift, Prog.bind_op, Prog.bind_ret,
    Prog.pure_eq_ret, sendThen_eq]
  dsimp only
  refine ld_wo m K c ?_
  refine turn m K c (conv1 c) ?_
  refine step_store_lo m K c rfl ?_
  refine turn m K c (conv2 m c) ?_
  refine step_barrier m K c rfl rfl (above_O₁ c) ?_
  refine turn m K c (conv3 m c) ?_
  iterate 4
    refine step_if m K c (low c) _ (by decide) ?_ ?_ ?_
    case refine_1 => exact lo_cond c _ _ (by simp only [cond_lo c])
    case refine_2 =>
      intro h
      refine isRs_of c _ ?_ ?_ rfl rfl rfl
      · exact acc_slice_peer c _ _ (by simp only [off_lo c])
      · exact peer_of c _ _ _ _ (by simp only [dev_lo c])
  refine ret_intro c ?_
  rw [hQ]
  try dsimp only
  iterate 4
    with_reducible refine piece c fun Q' hQ => ?_
    simp (zetaHave := false) only [k0_part16_eq_skeleton, k0_part16_skel, k0_part17_eq_skeleton, k0_part17_skel, k0_part18_eq_skeleton, k0_part18_skel,
      k0_part19_eq_skeleton, k0_part19_skel, semSignalWord, semWaitWord, Prog.lift, Prog.bind_op, Prog.bind_ret, Prog.pure_eq_ret, sendThen_eq]
    dsimp only
    repeat
      with_reducible refine at_send c ?_
      refine step_if m K c (low c) _ (by decide) ?_ ?_ ?_
      case refine_1 => exact lo_cond c _ _ (by simp only [cond_lo c])
      case refine_2 =>
        intro h
        refine isRs_of c _ ?_ ?_ rfl rfl rfl
        · exact acc_slice_peer c _ _ (by simp only [off_lo c])
        · exact peer_of c _ _ _ _ (by simp only [dev_lo c])
    refine ret_intro c ?_
    rw [hQ]
    try dsimp only
  with_reducible refine piece c fun Q' hQ => ?_
  simp (zetaHave := false) only [k0_part20_eq_skeleton, k0_part20_skel, semSignalWord, semWaitWord, Prog.lift, Prog.bind_op, Prog.bind_ret,
    Prog.pure_eq_ret, sendThen_eq]
  dsimp only
  refine step_if m K c (low c) _ (by decide) ?_ ?_ ?_
  case refine_1 => exact lo_cond c _ _ (by simp only [cond_lo c])
  case refine_2 =>
    intro h
    refine isRs_of c _ ?_ ?_ rfl rfl rfl
    · exact acc_slice_peer c _ _ (by simp only [off_lo c])
    · exact peer_of c _ _ _ _ (by simp only [dev_lo c])
  refine ld_x m K c ?_
  refine ld_wq m K c ?_
  refine ret_intro c ?_
  rw [hQ]
  try dsimp only
  iterate 2
    with_reducible refine piece c fun Q' hQ => ?_
    simp only [k0_part21_eq_skeleton, k0_part21_skel, k0_part22_eq_skeleton, k0_part22_skel, semSignalWord, semWaitWord, Prog.lift, Prog.bind_op,
      Prog.bind_ret, Prog.pure_eq_ret]
    refine ret_intro c ?_
    rw [hQ]
    try dsimp only
  with_reducible refine piece c fun Q' hQ => ?_
  simp (zetaHave := false) only [k0_part23_eq_skeleton, k0_part23_skel, semSignalWord, semWaitWord, Prog.lift, Prog.bind_op, Prog.bind_ret,
    Prog.pure_eq_ret, sendThen_eq]
  dsimp only
  refine ld_wo m K c ?_
  refine turn m K c (conv4 m c) ?_
  refine step_store_hi m K c rfl ?_
  refine turn m K c (conv5 m c) ?_
  iterate 3
    refine step_if m K c (high c) _ (by decide) ?_ ?_ ?_
    case refine_1 => exact hi_cond c _ _ (by simp only [cond_hi c])
    case refine_2 =>
      intro h
      refine isRs_of c _ ?_ ?_ rfl rfl rfl
      · exact acc_slice_peer c _ _ (by simp only [off_hi c])
      · exact peer_of c _ _ _ _ (by simp only [dev_hi c])
  refine ret_intro c ?_
  rw [hQ]
  try dsimp only
  iterate 4
    with_reducible refine piece c fun Q' hQ => ?_
    simp (zetaHave := false) only [k0_part24_eq_skeleton, k0_part24_skel, k0_part25_eq_skeleton, k0_part25_skel, k0_part26_eq_skeleton, k0_part26_skel,
      k0_part27_eq_skeleton, k0_part27_skel, semSignalWord, semWaitWord, Prog.lift, Prog.bind_op, Prog.bind_ret, Prog.pure_eq_ret, sendThen_eq]
    dsimp only
    repeat
      with_reducible refine at_send c ?_
      refine step_if m K c (high c) _ (by decide) ?_ ?_ ?_
      case refine_1 => exact hi_cond c _ _ (by simp only [cond_hi c])
      case refine_2 =>
        intro h
        refine isRs_of c _ ?_ ?_ rfl rfl rfl
        · exact acc_slice_peer c _ _ (by simp only [off_hi c])
        · exact peer_of c _ _ _ _ (by simp only [dev_hi c])
    refine ret_intro c ?_
    rw [hQ]
    try dsimp only
  with_reducible refine piece c fun Q' hQ => ?_
  simp (zetaHave := false) only [k0_part28_eq_skeleton, k0_part28_skel, semSignalWord, semWaitWord, Prog.lift, Prog.bind_op, Prog.bind_ret,
    Prog.pure_eq_ret, sendThen_eq]
  dsimp only
  refine step_if m K c (high c) _ (by decide) ?_ ?_ ?_
  case refine_1 => exact hi_cond c _ _ (by simp only [cond_hi c])
  case refine_2 =>
    intro h
    refine isRs_of c _ ?_ ?_ rfl rfl rfl
    · exact acc_slice_peer c _ _ (by simp only [off_hi c])
    · exact peer_of c _ _ _ _ (by simp only [dev_hi c])
  refine turn m K c (conv6 m c) ?_
  iterate 3 refine step_wait m K c 1 _ (by decide) rfl rfl 2 (by decide) (above_O₃ c) ?_
  refine ret_intro c ?_
  rw [hQ]
  try dsimp only
  iterate 7
    with_reducible refine piece c fun Q' hQ => ?_
    simp only [k0_part29_eq_skeleton, k0_part29_skel, k0_part30_eq_skeleton, k0_part30_skel, k0_part31_eq_skeleton, k0_part31_skel, k0_part32_eq_skeleton,
      k0_part32_skel, k0_part33_eq_skeleton, k0_part33_skel, k0_part34_eq_skeleton, k0_part34_skel, k0_part35_eq_skeleton, k0_part35_skel, semSignalWord,
      semWaitWord, Prog.lift, Prog.bind_op, Prog.bind_ret, Prog.pure_eq_ret]
    repeat
      with_reducible refine at_op c ?_
      refine step_wait m K c 1 _ (by decide) rfl rfl 2 (by decide) (above_O₃ c) ?_
    refine ret_intro c ?_
    rw [hQ]
    try dsimp only
  with_reducible refine piece c fun Q' hQ => ?_
  simp only [k0_part36_eq_skeleton, k0_part36_skel, semSignalWord, semWaitWord, Prog.lift, Prog.bind_op, Prog.bind_ret, Prog.pure_eq_ret]
  iterate 2 refine step_wait m K c 1 _ (by decide) rfl rfl 2 (by decide) (above_O₃ c) ?_
  refine turn m K c (conv7 m c) ?_
  refine step_reduce m K c (k0_off64_eq c) ?_
  refine turn m K c (conv8 m c) ?_
  refine ret_intro c ?_
  rw [hQ]
  try dsimp only
  iterate 10
    with_reducible refine piece c fun Q' hQ => ?_
    simp only [k0_part37_eq_skeleton, k0_part37_skel, k0_part38_eq_skeleton, k0_part38_skel, k0_part39_eq_skeleton, k0_part39_skel, k0_part40_eq_skeleton,
      k0_part40_skel, k0_part41_eq_skeleton, k0_part41_skel, k0_part42_eq_skeleton, k0_part42_skel, k0_part43_eq_skeleton, k0_part43_skel,
      k0_part44_eq_skeleton, k0_part44_skel, k0_part45_eq_skeleton, k0_part45_skel, k0_part46_eq_skeleton, k0_part46_skel, semSignalWord, semWaitWord,
      Prog.lift, Prog.bind_op, Prog.bind_ret, Prog.pure_eq_ret]
    repeat
      with_reducible refine at_op c ?_
      refine step_ag m K c _ (by decide) (ag_slice c (k0_off63_eq c)) (peer_of c _ _ _ _ (by simp only [dev_ag c])) (ag_slice c (k0_off63_eq c)) rfl rfl ?_
    refine ret_intro c ?_
    rw [hQ]
    try dsimp only
  with_reducible refine piece c fun Q' hQ => ?_
  simp only [k0_part47_eq_skeleton, k0_part47_skel, semSignalWord, semWaitWord, Prog.lift, Prog.bind_op, Prog.bind_ret, Prog.pure_eq_ret]
  iterate 2 refine step_ag m K c _ (by decide) (ag_slice c (k0_off63_eq c)) (peer_of c _ _ _ _ (by simp only [dev_ag c])) (ag_slice c (k0_off63_eq c)) rfl rfl ?_
  refine turn m K c (conv9 m c) ?_
  refine step_wait m K c 3 _ (by decide) rfl rfl 3 (by decide) (above_zero _) ?_
  refine ret_intro c ?_
  rw [hQ]
  try dsimp only
  iterate 11
    with_reducible refine piece c fun Q' hQ => ?_
    simp only [k0_part48_eq_skeleton, k0_part48_skel, k0_part49_eq_skeleton, k0_part49_skel, k0_part50_eq_skeleton, k0_part50_skel, k0_part51_eq_skeleton,
      k0_part51_skel, k0_part52_eq_skeleton, k0_part52_skel, k0_part53_eq_skeleton, k0_part53_skel, k0_part54_eq_skeleton, k0_part54_skel,
      k0_part55_eq_skeleton, k0_part55_skel, k0_part56_eq_skeleton, k0_part56_skel, k0_part57_eq_skeleton, k0_part57_skel, k0_part58_eq_skeleton,
      k0_part58_skel, semSignalWord, semWaitWord, Prog.lift, Prog.bind_op, Prog.bind_ret, Prog.pure_eq_ret]
    repeat
      with_reducible refine at_op c ?_
      refine step_wait m K c 3 _ (by decide) rfl rfl 3 (by decide) (above_zero _) ?_
    refine ret_intro c ?_
    rw [hQ]
    try dsimp only
  with_reducible refine piece c fun Q' hQ => ?_
  simp only [k0_part59_eq_skeleton, k0_part59_skel, semSignalWord, semWaitWord, Prog.lift, Prog.bind_op, Prog.bind_ret, Prog.pure_eq_ret]
  iterate 2 refine step_wait m K c 3 _ (by decide) rfl rfl 3 (by decide) (above_zero _) ?_
  refine turn m K c (conv10 m c) ?_
  iterate 2 refine step_wait m K c 0 _ (by decide) rfl rfl 0 (by decide) (above_zero _) ?_
  refine ret_intro c ?_
  rw [hQ]
  try dsimp only
  with_reducible refine piece c fun Q' hQ => ?_
  simp only [k0_part60_eq_skeleton, k0_part60_skel, semSignalWord, semWaitWord, Prog.lift, Prog.bind_op, Prog.bind_ret, Prog.pure_eq_ret]
  iterate 5 refine step_wait m K c 0 _ (by decide) rfl rfl 0 (by decide) (above_zero _) ?_
  refine ret_intro c ?_
  rw [hQ]
  try dsimp only
  exact ret_intro c h

set_option maxHeartbeats 2000000 in
/-- The whole body: from the device's share of the resources to the gathered result in the output buffer, every semaphore back at zero. -/
theorem body {Q : PUnit → sProp 𝕄}
    (h : iprop(records m K ∗ (agW c (gath m) ∗ (((c : Thread nD τ).loc cc0_stg5_0) ↦{fullShare} (outC m))) ∗ ins m c ∗ R₁₃ m c) ⊢ Q ⟨⟩) :
    iprop(records m K ∗ A₀ c ∗ ins m c ∗ iprop(emp)) ⊢ wpc c (cc0_body xM (Memref.isWhole_whole _) wqM (Memref.isWhole_whole _) woM (Memref.isWhole_whole _)
      wkM (Memref.isWhole_whole _) wvM (Memref.isWhole_whole _) oM (Memref.isWhole_whole _) accM (Memref.isWhole_whole _) agM (Memref.isWhole_whole _)
      rsM (Memref.isWhole_whole _) cc0_scratch3 cc0_scratch4 cc0_scratch5 cc0_scratch6) Q := by
  rw [cc0_body_eq_skeleton]; unfold cc0_body_skel
  with_reducible refine piece c fun Q' hQ => ?_
  refine body71 m K c ?_
  rw [hQ]
  try dsimp only
  iterate 5
    with_reducible refine piece c fun Q' hQ => ?_
    simp only [k0_part61_eq_skeleton, k0_part61_skel, k0_part62_eq_skeleton, k0_part62_skel, k0_part63_eq_skeleton, k0_part63_skel, k0_part64_eq_skeleton,
      k0_part64_skel, k0_part65_eq_skeleton, k0_part65_skel, semSignalWord, semWaitWord, Prog.lift, Prog.bind_op, Prog.bind_ret, Prog.pure_eq_ret]
    repeat
      with_reducible refine at_op c ?_
      refine step_wait m K c 0 _ (by decide) rfl rfl 0 (by decide) (above_zero _) ?_
    refine ret_intro c ?_
    rw [hQ]
    try dsimp only
  with_reducible refine piece c fun Q' hQ => ?_
  simp only [k0_part66_eq_skeleton, k0_part66_skel, semSignalWord, semWaitWord, Prog.lift, Prog.bind_op, Prog.bind_ret, Prog.pure_eq_ret]
  refine step_wait m K c 0 _ (by decide) rfl rfl 0 (by decide) (above_zero _) ?_
  refine turn m K c (conv11 m c) ?_
  iterate 4 refine step_wait m K c 2 _ (by decide) rfl rfl 0 (by decide) (above_zero _) ?_
  refine ret_intro c ?_
  rw [hQ]
  try dsimp only
  iterate 4
    with_reducible refine piece c fun Q' hQ => ?_
    simp only [k0_part67_eq_skeleton, k0_part67_skel, k0_part68_eq_skeleton, k0_part68_skel, k0_part69_eq_skeleton, k0_part69_skel, k0_part70_eq_skeleton,
      k0_part70_skel, semSignalWord, semWaitWord, Prog.lift, Prog.bind_op, Prog.bind_ret, Prog.pure_eq_ret]
    repeat
      with_reducible refine at_op c ?_
      refine step_wait m K c 2 _ (by decide) rfl rfl 0 (by decide) (above_zero _) ?_
    refine ret_intro c ?_
    rw [hQ]
    try dsimp only
  simp only [semSignalWord, semWaitWord, Prog.lift, Prog.bind_op, Prog.bind_ret, Prog.pure_eq_ret]
  iterate 3 refine step_wait m K c 2 _ (by decide) rfl rfl 0 (by decide) (above_zero _) ?_
  refine turn m K c (conv12 m c) ?_
  refine step_out m K c ?_
  exact ret_intro c h

end Cert.Mha

end
-- ==== Proof.Deal.lean ====
/-
How the launch deals the protocol's ghost state and credit out to the devices.
-/
module

public import proofs.«01_k».proof.Proof.Phases

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell of a device: none is its barrier, the others are its numbered DMA cells. -/
abbrev Kind : Type := Option (Fin 4 × Fin 31)

/-! ## Products over a device's cells -/

theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem over_option (Φ : Kind → sProp 𝕄) : bigSep Finset.univ Φ = iprop(Φ none ∗ bigSep Finset.univ fun x => Φ (some x)) := by
  rw [bigSep_univ_equiv (Equiv.optionEquivSumPUnit.{0} (Fin 4 × Fin 31)).symm, bigSep_univ_sum,
    bigSep_univ_of_subsingleton PUnit.unit]
  simp only [Equiv.optionEquivSumPUnit_symm_inl, Equiv.optionEquivSumPUnit_symm_inr]
  have h (P Q : sProp 𝕄) : iprop(P ∗ Q) ⊢ iprop(Q ∗ P) := by iintro ⟨H, H'⟩; iframe
  exact BI.equiv_iff.mp ⟨h _ _, h _ _⟩

theorem over_fams (Φ : Fin 4 × Fin 31 → sProp 𝕄) : bigSep Finset.univ Φ
    = iprop((bigSep Finset.univ fun j => Φ (0, j)) ∗ (bigSep Finset.univ fun j => Φ (1, j))
        ∗ (bigSep Finset.univ fun j => Φ (2, j)) ∗ bigSep Finset.univ fun j => Φ (3, j)) := by
  rw [bigSep_univ_prod, over_four]

/-- A pair's product seen from the other end. -/
theorem over_swap (Φ : Dev nD → Fin 31 → sProp 𝕄) :
    (bigSep Finset.univ fun c => bigSep Finset.univ fun j => Φ c j)
      = bigSep Finset.univ fun c => bigSep Finset.univ fun j => Φ (peer c j) (rev j) := by
  rw [← bigSep_univ_prod (fun x : Dev nD × Fin 31 => Φ x.1 x.2), bigSep_univ_equiv swap, bigSep_univ_prod]
  rfl

/-! ## The cells and the tokens -/

theorem csem_injective : Function.Injective (csem : Kind → SemLoc sig) :=
  Function.LeftInverse.injective (g := fun s => match s with | .reg _ => none | .dma q => some (famOf q, numOf q)) fun x => by
    rcases x with _ | ⟨k, j⟩
    · rfl
    · exact congrArg some (Prod.ext (famOf_dsem k j) (numOf_dsem k j))

theorem kcell_injective : Function.Injective (kcell : Dev nD × Kind → GSem nD τ sig) := by
  rintro ⟨c, k⟩ ⟨c', k'⟩ h
  exact Prod.ext (congrArg (fun g : GSem nD τ sig => g.1.1) h) (csem_injective (congrArg Prod.snd h))

/-- A device's duties: 31 on its barrier, one on each of its DMA cells. -/
abbrev Due : Type := Fin 31 ⊕ (Fin 4 × Fin 31)

abbrev tokOf (x : Dev nD × Due) : GSem nD τ sig × ℕ × Fin 31 := match x.2 with
  | .inl j => (barCell x.1, 0, j)
  | .inr y => (cell y.1 x.1 y.2, 0, 0)

theorem tokOf_injective : Function.Injective (tokOf : Dev nD × Due → GSem nD τ sig × ℕ × Fin 31) :=
  Function.LeftInverse.injective
    (g := fun t => (t.1.1.1, match t.1.2 with | .reg _ => Sum.inl t.2.2 | .dma q => Sum.inr (famOf q, numOf q))) fun x => by
    rcases x with ⟨c, j | ⟨k, j⟩⟩
    · rfl
    · exact Prod.ext rfl (congrArg Sum.inr (Prod.ext (famOf_dsem k j) (numOf_dsem k j)))

def allCells : Finset (GSem nD τ sig) := Finset.univ.map ⟨kcell, kcell_injective⟩
def allToks : Finset (GSem nD τ sig × ℕ × Fin 31) := Finset.univ.map ⟨tokOf, tokOf_injective⟩

/-- The launch's ghost element: the pipeline's own and the protocol's. -/
def u₀ : UU := (initOf (Pipeline.cells cfgs cellOf_inj) (Pipeline.launchToks cfgs cellOf_inj), initOf allCells allToks)

variable (c : Dev nD)

/-- The tokens of the duties on a device's own cells. -/
def toks : sProp 𝕄 :=
  iprop((bigSep Finset.univ fun j => dutyTok ER (barCell c) 0 j) ∗ bigSep Finset.univ fun x : Fin 4 × Fin 31 => dutyTok ER (cell x.1 c x.2) 0 0)

/-- The positions and records of a device's own cells. -/
def spots : sProp 𝕄 := bigSep Finset.univ fun k => iprop(atPos ER (kcell (c, k)) 0 ∅ 0 ∗ reached ER (kcell (c, k)) 0)

/-- What the launch element deals a device. -/
def G : sProp 𝕄 := iprop((bigSep Finset.univ fun k => roundState ER (sched m) (kcell (c, k)) 0) ∗ spots c ∗ toks c)

/-- What of it no other device holds, once the tokens have gone to the devices that pay the duties. -/
def linear : sProp 𝕄 :=
  iprop((atPos ER (barCell c) 0 ∅ 0 ∗ posOf c 0 ∗ posOf c 1 ∗ posOf c 2 ∗ posOf c 3) ∗ sigTok c ∗ rsTok c ∗ agTok c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G spots; simp only [bigSep_sep']
  iframe

theorem unscoped_eq : (unscopedSems0 c : sProp 𝕄) = zeroBar c := by
  unfold unscopedSems0; rw [bigSep_eq_bigSepL_of_eq [SemLoc.reg barS] (by decide) (by decide)]; rfl
theorem own_eq : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0; rw [over_fams]; rfl

/-- The semaphores of a device that its body uses, all at zero. -/
theorem sems0 : iprop(Pipeline.ownSems0 (Ix := Unit) (Name := ℕ) (U := UU) (Lvl := ℕ) (Val := Elt F) (τ := τ) osem c ∗ unscopedSems0 c)
    ⊢ (bigSep Finset.univ fun k => semVal (kcell (c, k)) 0 : sProp 𝕄) := by
  rw [over_option, unscoped_eq]
  unfold Pipeline.ownSems0 zeroBar
  iintro ⟨H, Hb⟩
  isplitl [Hb]; · iexact Hb
  iexact H

/-- A device's cells become invariants. -/
theorem core_alloc : iprop(Pipeline.ownSems0 (Ix := Unit) (Name := ℕ) (U := UU) (Lvl := ℕ) (Val := Elt F) (τ := τ) osem c ∗ unscopedSems0 c ∗ G m c)
    ⊢ |={Set.univ}=> iprop((bigSep Finset.univ fun k => iprop(∃ κ : ℕ, cellInv ER (sched m) κ (kcell (c, k)))) ∗ spots c ∗ toks c) := by
  unfold G
  iintro ⟨Hos, Hus, Hst, Hat, Htok⟩
  ihave Hv := (sems0 (F := F) c) $$ [Hos Hus]; · iframe
  imod (show iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · iframe
  imodintro
  iframe

/-- The tokens go from the cells' owners to the devices that pay the duties. -/
theorem toks_around : (bigSep Finset.univ fun c : Dev nD => (toks c : sProp 𝕄)) ⊢ bigSep Finset.univ fun c : Dev nD => iprop(sigTok c ∗ rsTok c ∗ agTok c) := by
  have hbar : (bigSep Finset.univ fun c : Dev nD => bigSep Finset.univ fun j => (dutyTok ER (barCell c) 0 j : sProp 𝕄))
      = bigSep Finset.univ fun c : Dev nD => bigSep Finset.univ fun j => dutyTok ER (barCell (peer c j)) 0 j := by
    rw [bigSep_congr (s := Finset.univ) (fun (c : Dev nD) _ => bigSep_univ_equiv revE fun j => (dutyTok ER (barCell c) 0 j : sProp 𝕄)),
      over_swap fun c j => (dutyTok ER (barCell c) 0 (revE j) : sProp 𝕄)]
    exact bigSep_congr fun c _ => bigSep_congr fun j _ => congrArg (dutyTok ER (barCell (peer c j)) 0) (rev_rev j)
  unfold toks sigTok rsTok agTok rsDuty agDuty
  simp only [over_fams, bigSep_sep']
  rw [hbar, over_swap fun c j => (dutyTok ER (cell 1 c j) 0 0 : sProp 𝕄), over_swap fun c j => (dutyTok ER (cell 3 c j) 0 0 : sProp 𝕄)]
  iintro ⟨H, H0, H1, H2, H3⟩
  iframe

/-- What the global step of the launch leaves a device with: the records of every cell, and its own linear part. -/
def G' : sProp 𝕄 := iprop(∃ K : Dev nD × Kind → ℕ, ((bigSep Finset.univ fun ck => cellInv ER (sched m) (K ck) (kcell ck))
    ∗ (bigSep Finset.univ fun ck => reached ER (kcell ck) 0)) ∗ linear c)

theorem deal_linear : (iprop((bigSep Finset.univ fun c : Dev nD => bigSep Finset.univ fun k => atPos ER (kcell (c, k)) 0 ∅ 0)
    ∗ (bigSep Finset.univ fun c : Dev nD => iprop(sigTok c ∗ rsTok c ∗ agTok c))) : sProp 𝕄) ⊢ bigSep Finset.univ linear := by
  rw [← bigSep_sep']
  refine mono_any Finset.univ fun c => ?_
  unfold linear posOf
  rw [over_option, over_fams]

theorem regroup : (bigSep Finset.univ fun c : Dev nD =>
      iprop((bigSep Finset.univ fun k => iprop(∃ κ : ℕ, cellInv ER (sched m) κ (kcell (c, k)))) ∗ spots c ∗ toks c) : sProp 𝕄)
    ⊢ bigSep Finset.univ (G' m) := by
  unfold spots
  rw [bigSep_sep', bigSep_sep', ← bigSep_univ_prod (fun ck : Dev nD × Kind => iprop(∃ κ : ℕ, cellInv ER (sched m) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (sched m) κ (kcell ck) : sProp 𝕄))) $$ HI
  icases HK with ⟨%K, #HI⟩
  ihave Htok := (toks_around (F := F)) $$ Htok
  iapply (BI.bigSep_with_persistent (S := Finset.univ)
    (R := iprop((bigSep Finset.univ fun ck => cellInv ER (sched m) (K ck) (kcell ck)) ∗ (bigSep Finset.univ fun ck => reached ER (kcell ck) 0)))
    (Φ := linear) (Ψ := G' m) fun c _ => by
      unfold G'; iintro ⟨H, Hl⟩; iexists K; isplitl [H]; · iexact H
      iexact Hl)
  isplitr
  · isplitl; · iexact HI
    iexact HR
  · iapply (deal_linear (F := F))
    isplitl [Hat]; · iexact Hat
    iexact Htok

/-- The global step of the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- Both halves of the reduce-scatter's sends together. -/
theorem due_halves (T : Fin 31 → CellTallies nD τ sig Unit) : dueOf T (low c) 0 + dueOf T (high c) 0 = ∑ j, T j := by
  unfold dueOf
  rw [show todo (low c) 0 = Finset.univ.filter fun j => low c j = true from Finset.filter_congr fun j _ => and_iff_left (Nat.zero_le _),
    show todo (high c) 0 = Finset.univ.filter fun j => ¬ (low c j = true) from Finset.filter_congr fun j _ => by
      rw [low_eq, high_eq, highD_not]; exact and_iff_left (Nat.zero_le _)]
  exact Finset.sum_filter_add_sum_filter_not Finset.univ (fun j => low c j = true) T

theorem owed_eq : O₀ c = ∑ j, (barT c j + (rsT c j + agT c j)) := by
  unfold O₀ O₁ O₂ O₃
  rw [← add_assoc (dueOf (rsT c) (low c) 0), due_halves, add_zero]
  unfold dueOf
  rw [todo_every_zero, Finset.sum_add_distrib, Finset.sum_add_distrib]

/-- All that is owed, by the cell it is owed to. -/
theorem owed_all : (∑ c, O₀ c) = ∑ x : Dev nD × Fin 31,
    (tallyAt (barCell x.1) () 1 + (tallyAt (cell 1 x.1 x.2) () N + tallyAt (cell 3 x.1 x.2) () N) : CellTallies nD τ sig Unit) := by
  rw [Finset.sum_congr rfl fun c _ => owed_eq c, ← Equiv.sum_comp swap, Fintype.sum_prod_type]
  rfl

theorem at_cell (g : GSem nD τ sig) : launchCredit (Pipeline.owing O₀) 0 g () = ∑ x : Dev nD × Fin 31,
    ((if g = barCell x.1 then 1 else 0) + ((if g = cell 1 x.1 x.2 then N else 0) + (if g = cell 3 x.1 x.2 then N else 0))) := by
  rw [Pipeline.launchCredit_owing]
  have h := congrArg (fun O : CellTallies nD τ sig Unit => O g ()) owed_all
  simp only [Finset.sum_apply, Finsupp.finset_sum_apply, Pi.add_apply, Finsupp.add_apply, tallyAt_apply, and_true] at h
  exact h

theorem credit_of {g : GSem nD τ sig} {n : ℕ} (h : launchCredit (Pipeline.owing O₀) 0 g () = n) :
    tallyOn g (launchCredit (Pipeline.owing O₀) 0 g) = (tallyAt g () n : CellTallies nD τ sig Unit) := by
  unfold tallyAt; refine congrArg _ (Finsupp.ext fun u => ?_); cases u
  rw [h, Finsupp.single_eq_same]

theorem cell_inj {k k' : Fin 4} {c c' : Dev nD} {j j' : Fin 31} (h : cell k c j = cell k' c' j') : k = k' ∧ c = c' ∧ j = j' := by
  have := kcell_injective (a₁ := (c, some (k, j))) (a₂ := (c', some (k', j'))) h
  simp only [Prod.mk.injEq, Option.some.injEq] at this
  exact ⟨this.2.1, this.1, this.2.2⟩
theorem bar_inj {c c' : Dev nD} (h : barCell c = barCell c') : c = c' := congrArg (fun g : GSem nD τ sig => g.1.1) h
theorem bar_cell {k : Fin 4} {c c' : Dev nD} {j : Fin 31} : barCell c ≠ cell k c' j := fun h => by
  have := congrArg Prod.snd h; cases this

theorem launch_bar : launchCredit (Pipeline.owing O₀) 0 (barCell c) () = 31 := by
  rw [at_cell, Fintype.sum_prod_type, Finset.sum_eq_single c]
  · rw [Finset.sum_congr rfl fun j _ => show _ = 1 by
      rw [if_pos rfl, if_neg bar_cell, if_neg bar_cell]]
    rw [Finset.sum_const, Finset.card_univ, Fintype.card_fin, smul_eq_mul]
  · intro d _ hd
    refine Finset.sum_eq_zero fun j _ => ?_
    rw [if_neg fun h => hd (bar_inj h).symm, if_neg bar_cell, if_neg bar_cell]; rfl
  · exact fun h => absurd (Finset.mem_univ _) h

theorem launch_dma (k : Fin 4) (hk : k = 1 ∨ k = 3) (j : Fin 31) : launchCredit (Pipeline.owing O₀) 0 (cell k c j) () = N := by
  rw [at_cell, Finset.sum_eq_single (c, j)]
  · rcases hk with rfl | rfl
    · rw [if_neg bar_cell.symm, if_pos rfl, if_neg fun h => absurd (cell_inj h).1 (by decide)]; omega
    · rw [if_neg bar_cell.symm, if_neg fun h => absurd (cell_inj h).1 (by decide), if_pos rfl]; omega
  · rintro ⟨d, i⟩ _ hd
    have hne : ∀ k', cell k c j ≠ cell k' d i := fun k' h => hd (Prod.ext (cell_inj h).2.1.symm (cell_inj h).2.2.symm)
    rw [if_neg bar_cell.symm, if_neg (hne 1), if_neg (hne 3)]; rfl
  · exact fun h => absurd (Finset.mem_univ _) h

/-- A device's credits at launch. -/
theorem creds : (Pipeline.launchCred O₀ c : sProp 𝕄) ⊢ iprop(cred (tallyAt (barCell c) () 31) ∗ credOf c 1 ∗ credOf c 3) := by
  unfold Pipeline.launchCred
  refine (show _ ⊢ _ from BI.bigSep_subset (Finset.subset_univ (Finset.univ.map ⟨csem, csem_injective⟩))).trans ?_
  rw [bigSep_map, over_option, over_fams]
  have hk (k : Fin 4) (hk : k = 1 ∨ k = 3) : (bigSep Finset.univ fun j : Fin 31 =>
      (cred (tallyOn ((c.tc : Thread nD τ), osem (k, j)) (launchCredit (Pipeline.owing O₀) 0 ((c.tc : Thread nD τ), osem (k, j)))) : sProp 𝕄)) = credOf c k :=
    bigSep_congr fun j _ => congrArg cred (credit_of (launch_dma c k hk j))
  iintro ⟨Hb, -, H1, -, H3⟩
  ihave Hb := (Entails.of_eq (congrArg cred (credit_of (launch_bar c)))) $$ Hb
  ihave H1 := (Entails.of_eq (hk 1 (Or.inl rfl))) $$ H1
  ihave H3 := (Entails.of_eq (hk 3 (Or.inr rfl))) $$ H3
  iframe

end Cert.Mha

end
-- ==== Proof.Run.lean ====
/-
The launch: the region's data, the body's obligation, and the run of @main from any memory with zero counters.
-/
module

public import proofs.«01_k».proof.Proof.Body
public import proofs.«01_k».proof.Proof.Deal
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The region's data -/

/-- What a device starts with: the records, its linear part of the protocol's state, and its credits. -/
def start : sProp 𝕄 := iprop(∃ K, records m K ∗ linear c ∗ cred (tallyAt (barCell c) () 31) ∗ credOf c 1 ∗ credOf c 3)
/-- Its scratch buffers, whatever they hold. -/
def scratch : sProp 𝕄 := iprop((∃ f, accW c f) ∗ (∃ f, agW c f) ∗ (∃ f, rsW c f))
def Φ₀ : sProp 𝕄 := iprop(start m c ∗ scratch c)
def Φ₁ : sProp 𝕄 := iprop(scratch (F := F) c ∗ zeros c 0 ∗ zeros c 1 ∗ zeros c 2 ∗ zeros c 3 ∗ zeroBar c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => wkS m c
    | ⟨4, _⟩ => wvS m c
    | ⟨5, _⟩ => outC m
  Φ t := match t with
    | ⟨0, _⟩ => Φ₀ m c
    | ⟨_ + 1, _⟩ => Φ₁ c
  q _ := fullShare
  owed t := match t with
    | ⟨0, _⟩ => O₀ c
    | ⟨_ + 1, _⟩ => 0

theorem only (t : Fin cfg0.N) : t = t0_0 := fin_N0 t

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_is {b : Ref sig .tc} {X : b.ty.Contents (Elt F)} : (stg c b X : sProp 𝕄) = (((c : Thread nD τ).loc b) ↦{fullShare} X) := by
  unfold stg
  refine BI.equiv_iff.mp ⟨?_, ?_⟩
  · show iprop(∃ f : Buf (Elt F) (((c : Dev nD) : Thread nD τ).loc b), ⌜f = X⌝ ∗ (((c : Thread nD τ).loc b) ↦{fullShare} f)) ⊢ _
    iintro ⟨%f, %hf, H⟩; subst hf; iexact H
  · show _ ⊢ iprop(∃ f : Buf (Elt F) (((c : Dev nD) : Thread nD τ).loc b), ⌜f = X⌝ ∗ (((c : Thread nD τ).loc b) ↦{fullShare} f))
    iintro H; iexists X; isplitr; · (ipureintro; rfl)
    iexact H

def bodyPre : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost : sProp 𝕄 :=
  iprop(Φ₁ c ∗ (dats m ρ 0 c).owesAt () t0_0.succ ∗ stg c cc0_stg0_0 (xS m c) ∗ stg c cc0_stg1_0 (wqS m c) ∗ stg c cc0_stg2_0 (woS m c)
    ∗ stg c cc0_stg3_0 (wkS m c) ∗ stg c cc0_stg4_0 (wvS m c) ∗ stg c cc0_stg5_0 (outC m))

/-- An input's staging buffer at the point holds the block fetched for it. -/
theorem fetched (w : Fin cfg0.W) (h : (cfg0.win w).fetch t0_0 = true) {X : (cfg0.win w).block.Idx → Elt F (cfg0.win w).elt}
    (hX : ∀ d, (dats m ρ 0 c).fetched w t0_0 d = X) (d) : (dats m ρ 0 c).before w t0_0 d = X := by
  unfold Dat.before; rw [if_pos h]; exact hX d

theorem pre_body : bodyPre m ρ c ⊢ iprop(∃ K, records m K ∗ A₀ c ∗ ins m c ∗ iprop(emp)) := by
  unfold bodyPre
  simp only [stg_is, fetched m ρ c 0 (fetch0_0 t0_0) (X := xS m c) fun _ => rfl, fetched m ρ c 1 (fetch0_1 t0_0) (X := wqS m c) fun _ => rfl,
    fetched m ρ c 2 (fetch0_2 t0_0) (X := woS m c) fun _ => rfl, fetched m ρ c 3 (fetch0_3 t0_0) (X := wkS m c) fun _ => rfl,
    fetched m ρ c 4 (fetch0_4 t0_0) (X := wvS m c) fun _ => rfl]
  unfold Φ₀ start scratch linear A₀ rest1 barAt outAny ins due Dat.owesAt Pipeline.owesWithin
  rw [show (dats m ρ 0 c).owed t0_0.castSucc = O₀ c from rfl]
  iintro ⟨⟨⟨%K, Hrec, ⟨⟨Hb, H0, H1, H2, H3⟩, Hsig, Hrs, Hag⟩, Hcb, Hc1, Hc3⟩, Ha, Hg, Hs⟩, ⟨%W, -, Ho⟩, ⟨%d0, X0⟩, ⟨%d1, X1⟩, ⟨%d2, X2⟩, ⟨%d3, X3⟩, ⟨%d4, X4⟩, ⟨%d5, X5⟩⟩
  iexists K
  isplitl [Hrec]; · iexact Hrec
  isplitr [X0 X1 X2 X3 X4]
  · isplitl [Hsig]; · iexact Hsig
    isplitl [Hrs]; · iexact Hrs
    isplitl [Hb Hcb]; · iframe
    isplitl [Hag H0 H1 H2 H3 Hc1 Hc3 X5]
    · isplitl [Hag]; · iexact Hag
      isplitl [H0]; · iexact H0
      isplitl [H1]; · iexact H1
      isplitl [H2]; · iexact H2
      isplitl [H3]; · iexact H3
      isplitl [Hc1]; · iexact Hc1
      isplitl [Hc3]; · iexact Hc3
      iexists _; iexact X5
    isplitl [Ho]; · iexists W; iexact Ho
    iframe
  · isplitl
    · iframe
    · iempintro

theorem post_body (K) : iprop(records m K ∗ (agW c (gath m) ∗ (((c : Thread nD τ).loc cc0_stg5_0) ↦{fullShare} (outC m))) ∗ ins m c ∗ R₁₃ m c)
    ⊢ bodyPost m ρ c := by
  unfold bodyPost ins R₁₃ Φ₁ scratch due Dat.owesAt Pipeline.owesWithin
  simp only [stg_is]
  rw [show (dats m ρ 0 c).owed t0_0.succ = 0 from rfl]
  iintro ⟨-, ⟨Hg, H5⟩, ⟨H0, H1, H2, H3, H4⟩, Hz0, Hz1, Hz2, Hz3, Hzb, Ha, Hs, ⟨%W, Ho⟩⟩
  isplitl [Hg Ha Hs Hz0 Hz1 Hz2 Hz3 Hzb]
  · isplitl [Hg Ha Hs]
    · isplitl [Ha]; · iexists _; iexact Ha
      isplitl [Hg]; · iexists _; iexact Hg
      iexists _; iexact Hs
    · iframe
  isplitl [Ho]
  · iexists W
    isplitr; · (ipureintro; exact fun _ _ => Or.inl trivial)
    iexact Ho
  iframe

theorem prog_eq : (defs₀ (F := F)) Proc.tc (0 : Fin 1) (t0_0, cfg0.slots t0_0) = cc0_body xM (Memref.isWhole_whole _) wqM (Memref.isWhole_whole _) woM (Memref.isWhole_whole _) wkM (Memref.isWhole_whole _)
    wvM (Memref.isWhole_whole _) oM (Memref.isWhole_whole _) accM (Memref.isWhole_whole _) agM (Memref.isWhole_whole _) rsM (Memref.isWhole_whole _)
    cc0_scratch3 cc0_scratch4 cc0_scratch5 cc0_scratch6 := by
  unfold defs₀
  rfl

theorem body_obligation : BodyObligation (dats (F := F) m ρ 0 c) (defs₀ (F := F)) 𝒱₀ () Set.univ := fun t => by
  rw [only t]
  rw [bigSep_W0, bigSep_W0]
  simp only [owns_whole_eq]
  show bodyPre m ρ c ⊢ _
  rw [prog_eq]
  refine (pre_body m ρ c).trans ?_
  iintro ⟨%K, H⟩
  iapply (body m K c ((post_body m ρ c K).trans (by unfold bodyPost; exact .refl))); iexact H

/-! ## The launch -/

theorem ownSemFacts : Pipeline.OwnSemFacts cfg0.spec osem where
  isScoped k := by revert k; decide +kernel
  inj := fun x y h => Option.some_injective _ (csem_injective (a₁ := some x) (a₂ := some y) h)
  disj := by
    intro k w s h
    have h' : dsem k.1 k.2 = (cfg0.spec w).sem s := SemLoc.dma.inj h
    have hv : ∀ (w : Fin cfg0.W) (s), ((cfg0.spec w).sem s).val < 6 := by decide +kernel
    have := congrArg Fin.val h'
    rw [dsem_val] at this
    have := hv w s
    omega

theorem share_eq (w : Fin cfg0.W) : (dats m ρ 0 c).share w = fullShare := by unfold Dat.share; split <;> rfl

theorem start_intro : iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hcr := (creds (F := F) c) $$ Hcr
  imodintro
  unfold start G' records
  icases HG with ⟨%K, ⟨Hi, Hr⟩, Hl⟩
  isplitl
  · iexists K; iframe
  · iempintro

theorem phi0_intro : iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H⟩
  isplitl [Hs]; · iexact Hs
  iexact H

theorem phi1_exit : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁ scratch
  iintro ⟨H, H0, H1, H2, H3, Hb⟩
  isplitl [Hb]; · iexact Hb
  isplitl [H0 H1 H2 H3]; · iframe
  iexact H

/-- The staging semaphores' waits come below everything owed. -/
theorem waits : (levAts L lv : sProp 𝕄) ⊢ Pipeline.cellsWaits cfgs (dats m ρ) () 0 c :=
  Pipeline.cellsWaits_intro cfgs (dats m ρ) () 0 c fun w s t => mayWait_of_above c _ (n := 0)
    (by
      have h : ∀ (w : Fin cfg0.W) (s), ¬ (famOf ((cfg0.spec w).sem s) = 1) ∧ ¬ (famOf ((cfg0.spec w).sem s) = 3) := by decide +kernel
      exact le_of_eq ((if_neg (h w s).1).trans (if_neg (h w s).2)))
    (by
      rcases t with ⟨_ | _, ht⟩
      · exact above_add (above_due (above_bar c) _ _) (above_add (above_due (fun j => (above_rs c j).mono (by omega)) _ _)
          (above_add (above_due (fun j => (above_rs c j).mono (by omega)) _ _) (above_add (above_due (fun j => (above_ag c j).mono (by omega)) _ _) (above_zero 0))))
      · exact above_zero 0)

/-! ## The run -/

/-- What a window's array holds in the end. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 2000000 in
/-- For any float values, from any memory with zero counters, every weakly fair run of the 32 devices ends, each
    window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mha

end
-- ==== Proof.Frames.lean ====
/-
What a run of @main leaves: the arguments as they were, the result at the kernel's value, every counter at zero.
-/
module

public import proofs.«01_k».proof.Proof.Run

@[expose] public section

set_option maxRecDepth 16384

noncomputable section

namespace Cert.Mha

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An input window's array is never written. -/
theorem input_kept (c : Dev nD) (w : Fin cfg0.W) (h : (cfg0.win w).isOut = false) : finalA m ρ c w = m ((cfg0.win w).arr.view.loc (c : Thread nD τ)) :=
  (dats (F := F) m ρ 0 c).arrAt_in w h _

/-- The run, every device's arguments unchanged and its result array at the window's final contents. -/
theorem run_args : θ_run defs (onTc (τ := τ) (main (F := F))) (s₀ m ρ) (fun r => (∀ c : Dev nD,
      r.2.mem ((c : Thread nD τ).loc main_v1) = finalA m ρ c (5 : Fin 6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r ⟨h, hs⟩ => ⟨fun c => ⟨h c (5 : Fin 6), (h c (0 : Fin 6)).trans (input_kept m ρ c 0 rfl),
    (h c (1 : Fin 6)).trans (input_kept m ρ c 1 rfl), (h c (3 : Fin 6)).trans (input_kept m ρ c 3 rfl), (h c (4 : Fin 6)).trans (input_kept m ρ c 4 rfl),
    (h c (2 : Fin 6)).trans (input_kept m ρ c 2 rfl)⟩, hs⟩) (run_main m ρ)

end Cert.Mha

end
-- ==== Proof.Heads.lean ====
/-
What one device computes, read at one element over the extended reals: its eight heads of attention, each the
softmax-weighted mean of the values, and the product of the heads with the device's rows of the output projection.
-/
module

public import proofs.«01_k».proof.Proof.Cells
public import Idealize.ShloMosaic.Lib.Pointwise
public import Idealize.ShloMosaic.Lib.ValueIdx
public import Idealize.ShloMosaic.PureOps.Ideal

@[expose] public section

set_option maxRecDepth 16384

noncomputable section

namespace Cert.Mha

open Cert.KernelIdeal Cert.KernelIdeal.Gen
open Idealize.ShloMosaic

variable {F : FTy → Type} [FloatOps F]

/-! ## The kernel's chains of operations, once for all heads -/

/-- The scaled scores of 128 queries against the 256 keys of a head. -/
def scores (q : FVec F S128x128 .bf16) (k : FVec F S256x128 .bf16) : FVec F S128x256 .f32 :=
  mulf (matmul dot_S128x128_S256x128_S128x256_1_1_0_0_n_n none q k (constant S128x256 .f32 0x00000000#32))
    (broadcast S128x256 (Scalar.ofBits .f32 0x3DB504F3#32))

/-- The exponentials of the scores, each row less its maximum. -/
def weights (s : FVec F S128x256 .f32) : FVec F S128x256 .f32 :=
  exp (subf s (broadcastTo S128x256 (shapeCast S128x1
    (multiReduction .maximumf [1] S128 s 0xFF800000#32 reduces_S128x256_S128 (.inl rfl) rfl) shapeCasts_S128_S128x1) broadcasts_S128x1_S128x256))

/-- The mean of the values by the weights. -/
def mean (p : FVec F S128x256 .f32) (v : FVec F S256x128 .bf16) : FVec F S128x128 .f32 :=
  divf (matmul dot_S128x256_S256x128_S128x128_1_0_0_1_n_n none (truncf .bf16 p bitsLt_bf16_f32) v (constant S128x128 .f32 0x00000000#32))
    (broadcastTo S128x128 (shapeCast S128x1
      (multiReduction .add [1] S128 p 0x00000000#32 reduces_S128x256_S128 (.inl rfl) rfl) shapeCasts_S128_S128x1) broadcasts_S128x1_S128x128)

/-- One head of attention for 128 queries. -/
def head (q : FVec F S128x128 .bf16) (k v : FVec F S256x128 .bf16) : FVec F S128x128 .f32 := mean (weights (scores q k)) v

/-- Eight heads side by side, times the output projection. -/
def join (a0 a1 a2 a3 a4 a5 a6 a7 : FVec F S128x128 .f32) (wo : Vec F S1024x1024 .f32) : FVec F S128x1024 .bf16 :=
  shapeCast S128x1024 (truncf .bf16 (matmul dot_S128x1024_S1024x1024_S128x1024_1_0_0_1_n_n none
    (truncf .bf16 (concatenate S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩]
      concatenates_S128x128_S128x128_S128x128_S128x128_S128x128_S128x128_S128x128_S128x128_S128x1024_d1) bitsLt_bf16_f32)
    (truncf .bf16 (shapeCast S1024x1024 wo shapeCasts_S1024x1024_S1024x1024) bitsLt_bf16_f32)
    (constant S128x1024 .f32 0x00000000#32)) bitsLt_bf16_f32) shapeCasts_S128x1024_S128x1024

/-- The partial product of 128 rows, from the queries, keys and values of the device's eight heads. -/
def rows (q : FVec F S128x1024 .bf16) (k v : FVec F S256x1024 .bf16) (wo : Vec F S1024x1024 .f32) : FVec F S128x1024 .bf16 :=
  join
    (head (extractStridedSlice S128x128 ![0, 0] q slices_S128x1024_o0_0_S128x128) (extractStridedSlice S256x128 ![0, 0] k slices_S256x1024_o0_0_S256x128) (extractStridedSlice S256x128 ![0, 0] v slices_S256x1024_o0_0_S256x128))
    (head (extractStridedSlice S128x128 ![0, 128] q slices_S128x1024_o0_128_S128x128) (extractStridedSlice S256x128 ![0, 128] k slices_S256x1024_o0_128_S256x128) (extractStridedSlice S256x128 ![0, 128] v slices_S256x1024_o0_128_S256x128))
    (head (extractStridedSlice S128x128 ![0, 256] q slices_S128x1024_o0_256_S128x128) (extractStridedSlice S256x128 ![0, 256] k slices_S256x1024_o0_256_S256x128) (extractStridedSlice S256x128 ![0, 256] v slices_S256x1024_o0_256_S256x128))
    (head (extractStridedSlice S128x128 ![0, 384] q slices_S128x1024_o0_384_S128x128) (extractStridedSlice S256x128 ![0, 384] k slices_S256x1024_o0_384_S256x128) (extractStridedSlice S256x128 ![0, 384] v slices_S256x1024_o0_384_S256x128))
    (head (extractStridedSlice S128x128 ![0, 512] q slices_S128x1024_o0_512_S128x128) (extractStridedSlice S256x128 ![0, 512] k slices_S256x1024_o0_512_S256x128) (extractStridedSlice S256x128 ![0, 512] v slices_S256x1024_o0_512_S256x128))
    (head (extractStridedSlice S128x128 ![0, 640] q slices_S128x1024_o0_640_S128x128) (extractStridedSlice S256x128 ![0, 640] k slices_S256x1024_o0_640_S256x128) (extractStridedSlice S256x128 ![0, 640] v slices_S256x1024_o0_640_S256x128))
    (head (extractStridedSlice S128x128 ![0, 768] q slices_S128x1024_o0_768_S128x128) (extractStridedSlice S256x128 ![0, 768] k slices_S256x1024_o0_768_S256x128) (extractStridedSlice S256x128 ![0, 768] v slices_S256x1024_o0_768_S256x128))
    (head (extractStridedSlice S128x128 ![0, 896] q slices_S128x1024_o0_896_S128x128) (extractStridedSlice S256x128 ![0, 896] k slices_S256x1024_o0_896_S256x128) (extractStridedSlice S256x128 ![0, 896] v slices_S256x1024_o0_896_S256x128))
    wo

/-- The lower rows are computed so. -/
theorem lowOf_eq (x : Vec F S1x256x1024 .f32) (xl : Vec F S1x128x1024 .f32) (wq wo wk wv : Vec F S1024x1024 .f32) :
    lowOf x xl wq wo wk wv = rows (k0_pay21 xl wq) (k0_pay2 x wk) (k0_pay3 x wv) wo := rfl

/-- The upper rows likewise. -/
theorem highOf_eq (x : Vec F S1x256x1024 .f32) (xh : Vec F S1x128x1024 .f32) (wq wo wk wv : Vec F S1024x1024 .f32) :
    highOf x xh wq wo wk wv = rows (k0_pay21 xh wq) (k0_pay2 x wk) (k0_pay3 x wv) wo := rfl

/-! ## At one element, over the extended reals -/

/-- The factor of the scores, 1/√128 rounded to a float. -/
def scl : EReal := Ideal.ofBits .f32 0x3DB504F3#32

/-- The score of a query against key number `j`. -/
def score (q : Fin 128 → EReal) (k : Fin 256 → Fin 128 → EReal) (j : Fin 256) : EReal := (∑ e, q e * k j e) * scl

/-- The weight of key number `j`: the exponential of its score less the largest. -/
def weight (q : Fin 128 → EReal) (k : Fin 256 → Fin 128 → EReal) (j : Fin 256) : EReal :=
  Ideal.exp (score q k j - Finset.univ.fold max ⊥ (score q k))

/-- Attention of one query in one head, at one coordinate of the values. -/
def attend (q : Fin 128 → EReal) (k : Fin 256 → Fin 128 → EReal) (v : Fin 256 → EReal) : EReal :=
  Ideal.div (∑ j, weight q k j * v j) (∑ j, weight q k j)

theorem scores_at (q : FVec Ideal S128x128 .bf16) (k : FVec Ideal S256x128 .bf16) (i : Fin 128) (j : Fin 256) :
    scores q k (ix2 i j) = score (fun e => q (ix2 i e)) (fun j e => k (ix2 j e)) j := by
  pointwise [scores, score, scl]

theorem weights_at (s : FVec Ideal S128x256 .f32) (i : Fin 128) (j : Fin 256) :
    weights s (ix2 i j) = Ideal.exp (s (ix2 i j) - Finset.univ.fold max ⊥ fun j => s (ix2 i j)) := by
  have hbot : Ideal.ofBits .f32 0xFF800000#32 = ⊥ := by simp [Ideal.ofBits, Ideal.ieee]
  pointwise [weights]
  rw [hbot]

theorem mean_at (p : FVec Ideal S128x256 .f32) (v : FVec Ideal S256x128 .bf16) (i d : Fin 128) :
    mean p v (ix2 i d) = Ideal.div (∑ j, p (ix2 i j) * v (ix2 j d)) (∑ j, p (ix2 i j)) := by
  pointwise [mean]

/-- A sum over 1024 columns, head by head. -/
theorem sum_heads (f : Fin 1024 → EReal) : ∑ x, f x = ∑ h : Fin 8, ∑ d : Fin 128, f ⟨128 * h.val + d.val, by omega⟩ := by
  rw [← Fintype.sum_prod_type']
  refine (Fintype.sum_equiv (finProdFinEquiv (m := 8) (n := 128)) _ _ fun x => congrArg f (Fin.ext ?_)).symm
  simp only [finProdFinEquiv_apply_val]; omega

/-- The same, the eight heads written out. -/
theorem sum_eight (f : Fin 1024 → EReal) : ∑ x, f x = (∑ d : Fin 128, f ⟨d.val, by omega⟩) + (∑ d : Fin 128, f ⟨128 + d.val, by omega⟩)
    + (∑ d : Fin 128, f ⟨256 + d.val, by omega⟩) + (∑ d : Fin 128, f ⟨384 + d.val, by omega⟩) + (∑ d : Fin 128, f ⟨512 + d.val, by omega⟩)
    + (∑ d : Fin 128, f ⟨640 + d.val, by omega⟩) + (∑ d : Fin 128, f ⟨768 + d.val, by omega⟩) + (∑ d : Fin 128, f ⟨896 + d.val, by omega⟩) := by
  rw [sum_heads, Fin.sum_univ_eight]
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  exact Finset.sum_congr rfl fun d _ => congrArg f (Fin.ext (Nat.zero_add _))

/-- The product of the joined heads with the output projection, at one element. -/
theorem join_at (a0 a1 a2 a3 a4 a5 a6 a7 : FVec Ideal S128x128 .f32) (wo : Vec Ideal S1024x1024 .f32) (i : Fin 128) (n : Fin 1024) :
    join a0 a1 a2 a3 a4 a5 a6 a7 wo (ix2 i n)
      = ∑ h : Fin 8, ∑ d : Fin 128, (![a0, a1, a2, a3, a4, a5, a6, a7] h) (ix2 i d) * wo (ix2 ⟨128 * h.val + d.val, by omega⟩ n) := by
  rw [Fin.sum_univ_eight]
  pointwise [join]
  rw [sum_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine Finset.sum_congr rfl fun d _ => ?_
    have hd := d.isLt
    refine congrArg₂ (· * ·) ?_ rfl
    dsimp only
    repeat rw [dif_neg (by omega)]
    try rw [dif_pos (by omega)]
    try first
      | rfl
      | (refine congrArg _ (congrArg (ix2 i) (Fin.ext ?_)); dsimp only; omega)

/-- One head of attention, at one element. -/
theorem head_at (q : FVec Ideal S128x128 .bf16) (k v : FVec Ideal S256x128 .bf16) (i d : Fin 128) :
    head q k v (ix2 i d) = attend (fun e => q (ix2 i e)) (fun j e => k (ix2 j e)) (fun j => v (ix2 j d)) := by
  have hw : ∀ j, weights (scores q k) (ix2 i j) = weight (fun e => q (ix2 i e)) (fun j e => k (ix2 j e)) j := fun j => by
    rw [weights_at, scores_at, funext fun j => scores_at q k i j, weight]
  rw [head, mean_at, attend]; simp only [hw]

/-- The projections, at one element. -/
theorem query_at (x : Vec Ideal S1x128x1024 .f32) (w : Vec Ideal S1024x1024 .f32) (i : Fin 128) (n : Fin 1024) :
    k0_pay21 x w (ix2 i n) = ∑ e : Fin 1024, x (ix3 0 i e) * w (ix2 e n) := by
  pointwise [k0_pay21]
theorem key_at (x : Vec Ideal S1x256x1024 .f32) (w : Vec Ideal S1024x1024 .f32) (i : Fin 256) (n : Fin 1024) :
    k0_pay2 x w (ix2 i n) = ∑ e : Fin 1024, x (ix3 0 i e) * w (ix2 e n) := by
  pointwise [k0_pay2]
theorem value_at (x : Vec Ideal S1x256x1024 .f32) (w : Vec Ideal S1024x1024 .f32) (i : Fin 256) (n : Fin 1024) :
    k0_pay3 x w (ix2 i n) = ∑ e : Fin 1024, x (ix3 0 i e) * w (ix2 e n) := by
  pointwise [k0_pay3]

/-- Column `d` of head `h` among a device's 1024 columns. -/
def col (h : Fin 8) (d : Fin 128) : Fin 1024 := ⟨128 * h.val + d.val, by omega⟩

/-- The partial product of 128 rows, at one element: over the heads and their columns, the attention times the projection. -/
theorem rows_at (q : FVec Ideal S128x1024 .bf16) (k v : FVec Ideal S256x1024 .bf16) (wo : Vec Ideal S1024x1024 .f32) (i : Fin 128) (n : Fin 1024) :
    rows q k v wo (ix2 i n) = ∑ h : Fin 8, ∑ d : Fin 128,
      attend (fun e => q (ix2 i (col h e))) (fun j e => k (ix2 j (col h e))) (fun j => v (ix2 j (col h d))) * wo (ix2 (col h d) n) := by
  rw [rows, join_at]
  refine Finset.sum_congr rfl fun h _ => Finset.sum_congr rfl fun d _ => congrArg₂ (· * ·) ?_ rfl
  fin_cases h
  all_goals
    refine (head_at _ _ _ i d).trans ?_
    pointwise [col]

end Cert.Mha

end
-- ==== Proof.Result.lean ====
/-
The kernel's result at one element: over the devices, the partial products of each, added up; and that the result
array holds it when the launch ends.
-/
module

public import proofs.«01_k».proof.Proof.Heads
public import proofs.«01_k».proof.Proof.Run
public import Idealize.ShloMosaic.Lib.Pipeline.ValueKit

@[expose] public section

set_option maxRecDepth 16384

noncomputable section

namespace Cert.Mha

open Cert.KernelIdeal Cert.KernelIdeal.Gen
open Idealize.ShloMosaic
open Idealize.ShloMosaic.TcCoe

/-! ## The result array -/

section Array
variable {F : FTy → Type} [FloatOps F] (m : (ℓ : Loc nD τ sig) → Buf (Elt F) ℓ) (ρ : Dev nD → PrngReg)

/-- The one point of the grid. -/
def t₀ : Fin cfg0.N := ⟨0, by decide⟩

/-- After the launch every device's result array holds the gathered result. -/
theorem final_out (c : Dev nD) : finalA m ρ c (5 : Fin 6) = outC m :=
  (dats m ρ 0 c).arrAt_eq_of_after_last 5 t₀ (by decide +kernel) _ fun j => rfl

/-- A number shifted by zero. -/
theorem unshift {o n : ℕ} (h : o = 0) : o + n = n := by rw [h, Nat.zero_add]

/-- The staged arguments are the arguments. -/
theorem xS_eq (c : Dev nD) : xS m c = m ((c : Thread nD τ).loc main_arg0) :=
  have h : ∀ a, win0_0.kind.off (win0_0.index (0 : Fin 1) a) (win0_0.size a) = 0 := by decide +kernel
  funext fun i => congrArg (m _) (funext fun a => Fin.ext ((ValueKit.view_emb_slice_whole_unit_val _ _ _ _ _ _).trans (unshift (h a))))
theorem wqS_eq (c : Dev nD) : wqS m c = m ((c : Thread nD τ).loc main_arg1) :=
  have h : ∀ a, win0_1.kind.off (win0_1.index (0 : Fin 1) a) (win0_1.size a) = 0 := by decide +kernel
  funext fun i => congrArg (m _) (funext fun a => Fin.ext ((ValueKit.view_emb_slice_whole_unit_val _ _ _ _ _ _).trans (unshift (h a))))
theorem woS_eq (c : Dev nD) : woS m c = m ((c : Thread nD τ).loc main_arg4) :=
  have h : ∀ a, win0_2.kind.off (win0_2.index (0 : Fin 1) a) (win0_2.size a) = 0 := by decide +kernel
  funext fun i => congrArg (m _) (funext fun a => Fin.ext ((ValueKit.view_emb_slice_whole_unit_val _ _ _ _ _ _).trans (unshift (h a))))
theorem wkS_eq (c : Dev nD) : wkS m c = m ((c : Thread nD τ).loc main_arg2) :=
  have h : ∀ a, win0_3.kind.off (win0_3.index (0 : Fin 1) a) (win0_3.size a) = 0 := by decide +kernel
  funext fun i => congrArg (m _) (funext fun a => Fin.ext ((ValueKit.view_emb_slice_whole_unit_val _ _ _ _ _ _).trans (unshift (h a))))
theorem wvS_eq (c : Dev nD) : wvS m c = m ((c : Thread nD τ).loc main_arg3) :=
  have h : ∀ a, win0_4.kind.off (win0_4.index (0 : Fin 1) a) (win0_4.size a) = 0 := by decide +kernel
  funext fun i => congrArg (m _) (funext fun a => Fin.ext ((ValueKit.view_emb_slice_whole_unit_val _ _ _ _ _ _).trans (unshift (h a))))

end Array

/-! ## The sum over the devices -/

/-- A sum over a device and its 31 peers is a sum over all the devices. -/
theorem sum_peers (d : Dev nD) (f : Dev nD → EReal) : f d + ∑ s : Fin 31, f (peer d s) = ∑ c : Dev nD, f c := by
  rw [← Finset.add_sum_erase _ f (Finset.mem_univ d)]
  refine congrArg₂ (· + ·) rfl ?_
  rw [← Finset.sum_image (s := Finset.univ) (g := peer d) fun a _ b _ h => peer_inj d h]
  refine Finset.sum_congr (Finset.eq_of_subset_of_card_le ?_ ?_) fun _ _ => rfl
  · intro c hc
    obtain ⟨s, -, rfl⟩ := Finset.mem_image.1 hc
    exact Finset.mem_erase.2 ⟨peer_ne d s, Finset.mem_univ _⟩
  · rw [Finset.card_erase_of_mem (Finset.mem_univ _), Finset.card_image_of_injective _ (peer_inj d)]
    simp only [Finset.card_univ, Fintype.card_fin]; decide

/-! ## One element -/

section Element
variable (m : (ℓ : Loc nD τ sig) → Buf (Elt Ideal) ℓ)

/-- Device `c`'s part of the result at row `i`, column `n`: over its heads and their columns, the attention times the
    device's rows of the output projection. -/
def part (x : Fin 256 → Fin 1024 → EReal) (wq wk wv wo : Fin 1024 → Fin 1024 → EReal) (i : Fin 256) (n : Fin 1024) : EReal :=
  ∑ h : Fin 8, ∑ d : Fin 128,
    attend (fun e => ∑ l, x i l * wq l (col h e)) (fun j e => ∑ l, x j l * wk l (col h e)) (fun j => ∑ l, x j l * wv l (col h d))
      * wo (col h d) n

abbrev xA (c : Dev nD) (i : Fin 256) (l : Fin 1024) : EReal := m ((c : Thread nD τ).loc main_arg0) (ix3 (0 : Fin 1) i l)
abbrev wqA (c : Dev nD) (i l : Fin 1024) : EReal := m ((c : Thread nD τ).loc main_arg1) (ix2 i l)
abbrev wkA (c : Dev nD) (i l : Fin 1024) : EReal := m ((c : Thread nD τ).loc main_arg2) (ix2 i l)
abbrev wvA (c : Dev nD) (i l : Fin 1024) : EReal := m ((c : Thread nD τ).loc main_arg3) (ix2 i l)
abbrev woA (c : Dev nD) (i l : Fin 1024) : EReal := m ((c : Thread nD τ).loc main_arg4) (ix2 i l)

/-- The part of device `c`. -/
abbrev partC (c : Dev nD) : Fin 256 → Fin 1024 → EReal := part (xA m c) (wqA m c) (wkA m c) (wvA m c) (woA m c)

/-- The lower and the upper rows of `x`, as the body reads them. -/
theorem lower_at (X : Vec Ideal S1x256x1024 .f32) (i : Fin 128) (l : Fin 1024) :
    View.readAt (Elt Ideal) (View.whole cc0_stg0_0) xRlo.toLoadRect X (ix3 (0 : Fin 1) i l) = X (ix3 (0 : Fin 1) ⟨i.val, by omega⟩ l) := by
  refine congrArg X (funext fun a => ?_)
  fin_cases a
  · rfl
  · refine Fin.ext ?_
    show 0 + 1 * i.val = i.val
    omega
  · refine Fin.ext ?_
    show 0 + 1 * l.val = l.val
    omega
theorem upper_at (X : Vec Ideal S1x256x1024 .f32) (i : Fin 128) (l : Fin 1024) :
    View.readAt (Elt Ideal) (View.whole cc0_stg0_0) xRhi.toLoadRect X (ix3 (0 : Fin 1) i l) = X (ix3 (0 : Fin 1) ⟨128 + i.val, by omega⟩ l) := by
  refine congrArg X (funext fun a => ?_)
  fin_cases a
  · rfl
  · refine Fin.ext ?_
    show 128 + 1 * i.val = 128 + i.val
    omega
  · refine Fin.ext ?_
    show 0 + 1 * l.val = l.val
    omega

theorem low_at (c : Dev nD) (i : Fin 128) (n : Fin 1024) : lowP m c (ix2 i n) = partC m c ⟨i.val, by omega⟩ n := by
  rw [lowP, lowOf_eq, rows_at]
  unfold partC part
  simp only [query_at, key_at, value_at, xS_eq, wqS_eq, wkS_eq, wvS_eq, woS_eq, lower_at]
  try rfl
theorem high_at (c : Dev nD) (i : Fin 128) (n : Fin 1024) : highP m c (ix2 i n) = partC m c ⟨128 + i.val, by omega⟩ n := by
  rw [highP, highOf_eq, rows_at]
  unfold partC part
  simp only [query_at, key_at, value_at, xS_eq, wqS_eq, wkS_eq, wvS_eq, woS_eq, upper_at]
  try rfl

/-- Every row of the partial product. -/
theorem acc_at (c : Dev nD) (i : Fin 256) (n : Fin 1024) : accAll m c (ix2 i n) = partC m c i n := by
  by_cases h : i.val < 128
  · exact (dif_pos h).trans (low_at m c ⟨i.val, h⟩ n)
  · refine (dif_neg h).trans ((high_at m c ⟨i.val - 128, by omega⟩ n).trans ?_)
    exact congrArg (partC m c · n) (Fin.ext (by dsimp only; omega))

/-- The reduced rows: over the devices, their parts. -/
theorem red_at (d : Dev nD) (r : Fin 8) (n : Fin 1024) :
    redC m d (ix2 r n) = ∑ c : Dev nD, partC m c ⟨8 * d.val + r.val, by have hd : d.val < 32 := d.isLt; omega⟩ n := by
  rw [redC]
  pointwise [k0_pay37]
  refine Eq.trans ?_ (sum_peers d fun c => partC m c ⟨8 * d.val + r.val, by have hd : d.val < 32 := d.isLt; omega⟩ n)
  refine congrArg₂ (fun a b : EReal => a + b) ?_ (Finset.sum_congr rfl fun s _ => acc_at m (peer d s) _ n)
  refine Eq.trans ?_ (acc_at m d _ n)
  refine congrArg (accAll m d) (funext fun a => ?_)
  fin_cases a
  · refine Fin.ext ?_
    show 8 * d.val + 1 * r.val = 8 * d.val + r.val
    omega
  · refine Fin.ext ?_
    show 0 + 1 * n.val = n.val
    omega

/-- The kernel's result, at one element. -/
theorem out_at (i : Fin 256) (n : Fin 1024) : outC m (ix3 0 i n) = ∑ c : Dev nD, partC m c i n := by
  rw [outC]
  pointwise [k0_pay1, gath]
  refine (red_at m _ _ n).trans (Finset.sum_congr rfl fun c _ => congrArg (partC m c · n) (Fin.ext ?_))
  exact Nat.div_add_mod _ _

end Element

end Cert.Mha

end
-- ==== Proof.RefValue.lean ====
/-
The reference at one element: the same attention, over 256 heads, and one product with the whole output projection.  The
running maximum starts at -∞ and the running sums at zero, so the one block's rescaling disappears.
-/
module

public import proofs.«01_k».proof.Proof.Heads
public import proofs.«01_k».proof.Proof.Gen.ReferenceIdeal.Run

@[expose] public section

set_option maxRecDepth 16384

noncomputable section

namespace Cert.Ref

open Cert.ReferenceIdeal Cert.ReferenceIdeal.Gen
open Idealize.ShloMosaic
open Idealize.ShloMosaic.TcCoe

variable {F : FTy → Type} [FloatOps F]

/-! ## The reference's values, by name -/

/-- A projection, cut into heads. -/
def proj (x : FVec F S1x256x1024 .f32) (w : FVec F S1024x32768 .f32) : FVec F S1x256x256x128 .f32 :=
  shapeCast S1x256x256x128 (Host.dotGeneral dot_S1x256x1024_S1024x32768_S1x256x32768_2_0_01_1_n_n none x w) shapeCasts_S1x256x32768_S1x256x256x128

/-- The scaled scores. -/
def scores (q k : FVec F S1x256x256x128 .f32) : FVec F S1x256x256x256 .f32 :=
  mulf (Host.dotGeneral dot_S1x256x256x128_S1x256x256x128_S1x256x256x256_3_3_1_1_02_02 none q k)
    (broadcastInDim S1x256x256x256 ![] bcast_S_S1x256x256x256 (constant S_ .f32 0x3DB504F3#32))

/-- The largest score of each row. -/
def peak (s : FVec F S1x256x256x256 .f32) : FVec F S1x256x256 .f32 :=
  Host.reduce FloatOps.maximumf s (constant S_ .f32 0xFF800000#32) reducesTo_S1x256x256x256_S1x256x256_d3 h_S_

/-- The running maximum after the one block. -/
def top (s : FVec F S1x256x256x256 .f32) : FVec F S1x256x256x1 .f32 :=
  maximumf (broadcastInDim S1x256x256x1 ![] bcast_S_S1x256x256x1 (constant S_ .f32 0xFF800000#32))
    (broadcastInDim S1x256x256x1 ![0, 1, 2] bcast_S1x256x256_S1x256x256x1_0_1_2 (peak s))

/-- The factor by which the sums so far are rescaled. -/
def rescale (t : FVec F S1x256x256x1 .f32) : FVec F S1x256x256x1 .f32 :=
  Host.exp (subf (broadcastInDim S1x256x256x1 ![] bcast_S_S1x256x256x1 (constant S_ .f32 0xFF800000#32)) t)

/-- The exponentials of the scores less the maximum. -/
def weights (s : FVec F S1x256x256x256 .f32) (t : FVec F S1x256x256x1 .f32) : FVec F S1x256x256x256 .f32 :=
  Host.exp (subf s (broadcastInDim S1x256x256x256 ![0, 1, 2, 3] bcast_S1x256x256x1_S1x256x256x256_0_1_2_3 t))

/-- The weighted sums of the values. -/
def sums (a : FVec F S1x256x256x1 .f32) (p : FVec F S1x256x256x256 .f32) (v : FVec F S1x256x256x128 .f32) : FVec F S1x256x256x128 .f32 :=
  addf (mulf (broadcastInDim S1x256x256x128 ![] bcast_S_S1x256x256x128 (constant S_ .f32 0x00000000#32))
      (broadcastInDim S1x256x256x128 ![0, 1, 2, 3] bcast_S1x256x256x1_S1x256x256x128_0_1_2_3 (transpose S1x256x256x1 [0, 2, 1, 3] a transposes_S1x256x256x1_S1x256x256x1_0_2_1_3)))
    (transpose S1x256x256x128 [0, 3, 1, 2]
      (Host.dotGeneral dot_S1x256x256x128_S1x256x256x256_S1x256x128x256_1_3_3_2_02_01 none v p) transposes_S1x256x128x256_S1x256x256x128_0_3_1_2)

/-- The sums of the weights. -/
def total (a : FVec F S1x256x256x1 .f32) (p : FVec F S1x256x256x256 .f32) : FVec F S1x256x256x1 .f32 :=
  addf (mulf (broadcastInDim S1x256x256x1 ![] bcast_S_S1x256x256x1 (constant S_ .f32 0x00000000#32)) a)
    (broadcastInDim S1x256x256x1 ![0, 1, 2] bcast_S1x256x256_S1x256x256x1_0_1_2
      (Host.reduceAdd p (constant S_ .f32 0x00000000#32) reducesTo_S1x256x256x256_S1x256x256_d3 h_S_))

/-- The attention of all the heads. -/
def mean (o : FVec F S1x256x256x128 .f32) (l : FVec F S1x256x256x1 .f32) : FVec F S1x256x256x128 .f32 :=
  Host.divf o (broadcastInDim S1x256x256x128 ![0, 1, 2, 3] bcast_S1x256x256x1_S1x256x256x128_0_1_2_3
    (transpose S1x256x256x1 [0, 2, 1, 3] l transposes_S1x256x256x1_S1x256x256x1_0_2_1_3))

/-- The product with the output projection. -/
def project (a : FVec F S1x256x256x128 .f32) (wo : FVec F S32768x1024 .f32) : FVec F S1x256x1024 .f32 :=
  Host.dotGeneral dot_S1x256x32768_S32768x1024_S1x256x1024_2_0_01_1_n_n none (shapeCast S1x256x32768 a shapeCasts_S1x256x256x128_S1x256x32768) wo

/-- The attention from the scores and the values. -/
def attention (s : FVec F S1x256x256x256 .f32) (v : FVec F S1x256x256x128 .f32) : FVec F S1x256x256x128 .f32 :=
  mean (sums (rescale (top s)) (weights s (top s)) v) (total (rescale (top s)) (weights s (top s)))

/-- The reference's result is made of these. -/
theorem result_eq (m : (ℓ : Loc nD τ sig) → Buf (Elt F) ℓ) (c : Dev nD) :
    Value.res_main_v34 m c = project (attention
      (scores (proj (m ((c.tc : Thread nD τ).loc main_arg0)) (m ((c.tc : Thread nD τ).loc main_arg1)))
        (proj (m ((c.tc : Thread nD τ).loc main_arg0)) (m ((c.tc : Thread nD τ).loc main_arg2))))
      (proj (m ((c.tc : Thread nD τ).loc main_arg0)) (m ((c.tc : Thread nD τ).loc main_arg3))))
      (m ((c.tc : Thread nD τ).loc main_arg4)) := by
  unfold Value.res_main_v34
  rfl

/-! ## At one element, over the extended reals -/

/-- Column `d` of head `h` among all the columns. -/
def col (h : Fin 256) (d : Fin 128) : Fin 32768 := ⟨128 * h.val + d.val, by omega⟩

theorem proj_at (x : FVec Ideal S1x256x1024 .f32) (w : FVec Ideal S1024x32768 .f32) (i h : Fin 256) (d : Fin 128) :
    proj x w (ix4 0 i h d) = ∑ l : Fin 1024, x (ix3 0 i l) * w (ix2 l (col h d)) := by
  pointwise [proj]
  exact Finset.sum_congr rfl fun l _ => congrArg (fun y => x (ix3 0 i l) * w (ix2 l y)) (Fin.ext (by simp only [col]; omega))

theorem scores_at (q k : FVec Ideal S1x256x256x128 .f32) (h i j : Fin 256) :
    scores q k (ix4 0 h i j) = Mha.score (fun e => q (ix4 0 i h e)) (fun j e => k (ix4 0 j h e)) j := by
  pointwise [scores, Mha.score, Mha.scl]

/-- -∞ is the least extended real. -/
theorem bot_eq : Ideal.ofBits .f32 0xFF800000#32 = ⊥ := by simp [Ideal.ofBits, Ideal.ieee]

/-- A maximum over the last of four axes, at one element. -/
theorem reduce_max_at {n0 n1 n2 n3 : Nat} {u : Shape} (h : (⟨4, ![n0, n1, n2, n3]⟩ : Shape).ReducesTo [3] ⟨3, ![n0, n1, n2]⟩) (hu : 0 < u.numel)
    (s : FVec Ideal ⟨4, ![n0, n1, n2, n3]⟩ .f32) (z : FVec Ideal u .f32) (a : Fin n0) (b : Fin n1) (c : Fin n2) :
    Host.reduce FloatOps.maximumf s z h hu (ix3 a b c) = Finset.univ.fold (FloatOps.maximumf (F := Ideal) (φ := .f32)) (z (Shape.Idx.first hu)) fun k => s (ix4 a b c k) := by
  rw [Host.reduce_eq_fold, h.fold_fiber_r4_a3]
  rfl

theorem peak_at (s : FVec Ideal S1x256x256x256 .f32) (h i : Fin 256) :
    peak s (ix3 0 h i) = Finset.univ.fold max ⊥ fun j => s (ix4 0 h i j) := by
  rw [peak]
  refine (reduce_max_at _ _ s _ 0 h i).trans ?_
  rw [← bot_eq]
  rfl

/-- The larger of two arrays, at one element. -/
theorem max_at {t : Shape} (x y : FVec Ideal t .f32) (j : t.Idx) : maximumf x y j = max (x j) (y j) := rfl

theorem peak_kept (p : FVec Ideal S1x256x256 .f32) (h i : Fin 256) :
    broadcastInDim S1x256x256x1 ![0, 1, 2] bcast_S1x256x256_S1x256x256x1_0_1_2 p (ix4 0 h i 0) = p (ix3 0 h i) := by
  pointwise

theorem bot_kept (j : S1x256x256x1.Idx) :
    broadcastInDim S1x256x256x1 ![] bcast_S_S1x256x256x1 (constant (F := Ideal) S_ .f32 0xFF800000#32) j = Ideal.ofBits .f32 0xFF800000#32 := by
  pointwise

theorem top_peak (s : FVec Ideal S1x256x256x256 .f32) (h i : Fin 256) :
    top s (ix4 0 h i 0) = max (Ideal.ofBits .f32 0xFF800000#32) (peak s (ix3 0 h i)) := by
  rw [top, max_at, peak_kept, bot_kept]

theorem top_at (s : FVec Ideal S1x256x256x256 .f32) (h i : Fin 256) :
    top s (ix4 0 h i 0) = Finset.univ.fold max ⊥ fun j => s (ix4 0 h i j) := by
  rw [top_peak, bot_eq, peak_at]
  exact max_eq_right bot_le

theorem weights_at (s : FVec Ideal S1x256x256x256 .f32) (t : FVec Ideal S1x256x256x1 .f32) (h i j : Fin 256) :
    weights s t (ix4 0 h i j) = Ideal.exp (s (ix4 0 h i j) - t (ix4 0 h i 0)) := by
  pointwise [weights]

theorem sums_at (a : FVec Ideal S1x256x256x1 .f32) (p : FVec Ideal S1x256x256x256 .f32) (v : FVec Ideal S1x256x256x128 .f32) (h i : Fin 256) (d : Fin 128) :
    sums a p v (ix4 0 i h d) = ∑ j, p (ix4 0 h i j) * v (ix4 0 j h d) := by
  pointwise [sums]
  rw [zero_mul, zero_add]
  exact Finset.sum_congr rfl fun j _ => mul_comm _ _

theorem total_at (a : FVec Ideal S1x256x256x1 .f32) (p : FVec Ideal S1x256x256x256 .f32) (h i : Fin 256) :
    total a p (ix4 0 h i 0) = ∑ j, p (ix4 0 h i j) := by
  pointwise [total]
  rw [zero_mul, zero_add]

theorem mean_at (o : FVec Ideal S1x256x256x128 .f32) (l : FVec Ideal S1x256x256x1 .f32) (h i : Fin 256) (d : Fin 128) :
    mean o l (ix4 0 i h d) = Ideal.div (o (ix4 0 i h d)) (l (ix4 0 h i 0)) := by
  pointwise [mean]

/-- The attention of head `h`. -/
theorem attention_at (q k v : FVec Ideal S1x256x256x128 .f32) (h i : Fin 256) (d : Fin 128) :
    attention (scores q k) v (ix4 0 i h d)
      = Mha.attend (fun e => q (ix4 0 i h e)) (fun j e => k (ix4 0 j h e)) (fun j => v (ix4 0 j h d)) := by
  rw [attention, mean_at, sums_at, total_at, Mha.attend]
  simp only [weights_at, top_at, scores_at]
  rfl

/-- A sum over all the columns is a sum over the heads of sums over the columns of a head. -/
theorem sum_cols (f : Fin 32768 → EReal) : ∑ x, f x = ∑ h : Fin 256, ∑ d : Fin 128, f (col h d) := by
  rw [← Fintype.sum_prod_type']
  refine (Fintype.sum_equiv (finProdFinEquiv (m := 256) (n := 128)) _ _ fun x => congrArg f (Fin.ext ?_)).symm
  simp only [finProdFinEquiv_apply_val, col]; omega

theorem project_at (a : FVec Ideal S1x256x256x128 .f32) (wo : FVec Ideal S32768x1024 .f32) (i : Fin 256) (n : Fin 1024) :
    project a wo (ix3 0 i n) = ∑ h : Fin 256, ∑ d : Fin 128, a (ix4 0 i h d) * wo (ix2 (col h d) n) := by
  pointwise [project]
  refine (sum_cols _).trans (Finset.sum_congr rfl fun h _ => Finset.sum_congr rfl fun d _ => ?_)
  refine congrArg₂ (fun (y : Fin 256) (z : Fin 128) => a (ix4 0 i y z) * wo (ix2 (col h d) n)) (Fin.ext ?_) (Fin.ext ?_)
  · simp only [col]; omega
  · simp only [col]; omega

end Cert.Ref

end
-- ==== Proof.Equation.lean ====
/-
The two results are one: device `c` holds heads `8c` to `8c + 7` of the reference's 256, so the sum of the devices' partial
products is the reference's product with the whole output projection.
-/
module

public import proofs.«01_k».proof.Proof.Result
public import proofs.«01_k».proof.Proof.RefValue
public import Idealize.ShloMosaic.Lib.Layout

@[expose] public section

set_option maxRecDepth 16384

noncomputable section

namespace Cert.Ref

open Cert.ReferenceIdeal Cert.ReferenceIdeal.Gen
open Idealize.ShloMosaic
open Idealize.ShloMosaic.TcCoe

variable (m : (ℓ : Loc nD τ sig) → Buf (Elt Ideal) ℓ) (c : Dev nD)

abbrev xR (i : Fin 256) (l : Fin 1024) : EReal := m ((c.tc : Thread nD τ).loc main_arg0) (ix3 (0 : Fin 1) i l)
abbrev wqR (l : Fin 1024) (n : Fin 32768) : EReal := m ((c.tc : Thread nD τ).loc main_arg1) (ix2 l n)
abbrev wkR (l : Fin 1024) (n : Fin 32768) : EReal := m ((c.tc : Thread nD τ).loc main_arg2) (ix2 l n)
abbrev wvR (l : Fin 1024) (n : Fin 32768) : EReal := m ((c.tc : Thread nD τ).loc main_arg3) (ix2 l n)
abbrev woR (l : Fin 32768) (n : Fin 1024) : EReal := m ((c.tc : Thread nD τ).loc main_arg4) (ix2 l n)

/-- What head `h` adds to the result. -/
def term (i : Fin 256) (n : Fin 1024) (h : Fin 256) : EReal :=
  ∑ d : Fin 128, Mha.attend (fun e => ∑ l, xR m c i l * wqR m c l (col h e)) (fun j e => ∑ l, xR m c j l * wkR m c l (col h e))
    (fun j => ∑ l, xR m c j l * wvR m c l (col h d)) * woR m c (col h d) n

/-- The reference's result at one element is the sum over its heads. -/
theorem result_at (i : Fin 256) (n : Fin 1024) : Value.res_main_v34 m c (ix3 0 i n) = (∑ h, term m c i n h : EReal) := by
  rw [result_eq, project_at]
  change @Eq EReal _ _
  refine Finset.sum_congr rfl fun h _ => Finset.sum_congr rfl fun d _ => congrArg (fun a : EReal => a * woR m c (col h d) n) ?_
  rw [attention_at]
  simp only [proj_at]

end Cert.Ref

namespace Cert.Mha

open Idealize.ShloMosaic
open Idealize.ShloMosaic.TcCoe

/-- Head `h` of device `c` among all the heads. -/
def headOf (c : Fin 32) (h : Fin 8) : Fin 256 := ⟨8 * c.val + h.val, by omega⟩

/-- The heads, device by device. -/
theorem sum_devices (f : Fin 256 → EReal) : ∑ x, f x = ∑ c : Fin 32, ∑ h : Fin 8, f (headOf c h) := by
  rw [← Fintype.sum_prod_type']
  refine (Fintype.sum_equiv (finProdFinEquiv (m := 32) (n := 8)) _ _ fun x => congrArg f (Fin.ext ?_)).symm
  simp only [finProdFinEquiv_apply_val, headOf]; omega

/-- A block of columns, read at a column of one of the device's heads. -/
theorem cols_at (v : (⟨2, ![1024, 32768]⟩ : Shape).Idx → EReal) (c : Fin 32) (l : Fin 1024) (h : Fin 8) (d : Fin 128) :
    Layout.block ⟨2, ![1024, 1024]⟩ ⟨2, ![1024, 32768]⟩ 1 32 c v (by decide) (ix2 l (col h d)) = v (ix2 l (Ref.col (headOf c h) d)) := by
  refine congrArg v (funext fun a => Fin.ext ?_)
  match a with
  | 0 => rfl
  | 1 =>
    show c.val * 1024 + (128 * h.val + d.val) = 128 * (8 * c.val + h.val) + d.val
    omega

/-- A block of rows, read at a row of one of the device's heads. -/
theorem rows_block_at (v : (⟨2, ![32768, 1024]⟩ : Shape).Idx → EReal) (c : Fin 32) (h : Fin 8) (d : Fin 128) (n : Fin 1024) :
    Layout.block ⟨2, ![1024, 1024]⟩ ⟨2, ![32768, 1024]⟩ 0 32 c v (by decide) (ix2 (col h d) n) = v (ix2 (Ref.col (headOf c h) d) n) := by
  refine congrArg v (funext fun a => Fin.ext ?_)
  match a with
  | 1 => rfl
  | 0 =>
    show c.val * 1024 + (128 * h.val + d.val) = 128 * (8 * c.val + h.val) + d.val
    omega

section Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Where a device's arguments are the reference's, or their blocks, its partial product is the sum over its heads of the reference's terms. -/
theorem part_eq (c : Dev Cert.KernelIdeal.nD)
    (h0 : ∀ i l, xA m c i l = Ref.xR m' 0 i l)
    (h1 : ∀ l h d, wqA m c l (col h d) = Ref.wqR m' 0 l (Ref.col (headOf c h) d))
    (h2 : ∀ l h d, wkA m c l (col h d) = Ref.wkR m' 0 l (Ref.col (headOf c h) d))
    (h3 : ∀ l h d, wvA m c l (col h d) = Ref.wvR m' 0 l (Ref.col (headOf c h) d))
    (h4 : ∀ h d n, woA m c (col h d) n = Ref.woR m' 0 (Ref.col (headOf c h) d) n) (i : Fin 256) (n : Fin 1024) :
    partC m c i n = ∑ h, Ref.term m' 0 i n (headOf c h) := by
  unfold partC part Ref.term
  simp only [h0, h1, h2, h3, h4]

/-- Under the claim's reading of the arguments the two results are one. -/
theorem out_eq
    (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) :
    outC m = Cert.ReferenceIdeal.Value.res_main_v34 m' 0 := by
  refine funext fun x => ?_
  obtain ⟨i, n, rfl⟩ : ∃ (i : Fin 256) (n : Fin 1024), x = ix3 (0 : Fin 1) i n :=
    ⟨x 1, x 2, funext fun a => match a with
      | 0 => Fin.ext (Nat.lt_one_iff.1 (x 0).isLt)
      | 1 => rfl
      | 2 => rfl⟩
  refine (out_at m i n).trans (Eq.trans ?_ (Ref.result_at m' 0 i n).symm)
  refine Eq.trans ?_ (sum_devices _).symm
  refine Finset.sum_congr rfl fun c _ => part_eq m m' c ?_ ?_ ?_ ?_ ?_ i n
  · exact fun i l => congrFun (hm c).1 _
  · exact fun l h d => (congrFun (hm c).2.1 _).trans (cols_at _ c l h d)
  · exact fun l h d => (congrFun (hm c).2.2.1 _).trans (cols_at _ c l h d)
  · exact fun l h d => (congrFun (hm c).2.2.2.1 _).trans (cols_at _ c l h d)
  · exact fun h d n => (congrFun (hm c).2.2.2.2 _).trans (rows_block_at _ c h d n)

end Same

end Cert.Mha

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- The two texts of the kernel give one label map: their bodies are one text. -/
theorem defs₀_eq {F : FTy → Type} [FloatOps F] :
    Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

/-- So the definitions of the two programs agree. -/
theorem defs_eq {F : FTy → Type} [FloatOps F] :
    Cert.Kernel.defs (F := F) = Cert.KernelIdeal.defs (F := F) :=
  congrArg (Pipeline.defs Cert.KernelIdeal.pcfgs) defs₀_eq

/-- The kernel's own frame, from the run proved for any float values. -/
theorem frame_kernel : Cert.quiescent_Kernel := fun m ρ _ => by
  rw [defs_eq]
  exact (θ_run Cert.KernelIdeal.defs _ _).mono (fun _ h => ⟨fun c => (h.1 c).2, h.2⟩)
    (Cert.Mha.run_args (F := Bits) m ρ)

theorem frame_ideal : Cert.quiescent_KernelIdeal := fun m ρ _ =>
  (θ_run Cert.KernelIdeal.defs _ _).mono (fun _ h => ⟨fun c => (h.1 c).2, h.2⟩) (Cert.Mha.run_args (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's, over the extended reals. -/
theorem algebraic : Cert.algebraic_KernelIdeal_ReferenceIdeal := fun m g m' g' _ hm =>
  ⟨Cert.ReferenceIdeal.Value.res_main_v34 m' 0,
    (θ_run Cert.KernelIdeal.defs _ _).mono
      (fun _ h c => ⟨((h.1 c).1.trans (Cert.Mha.final_out m g c)).trans (Cert.Mha.out_eq m m' hm), (h.1 c).2⟩)
      (Cert.Mha.run_args (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
